-- ==== Defs.lean ====
def Pre_Kernel [hPre_drawn : Cert.Pre_drawn.Facts] (m : (ℓ : Loc Cert.Kernel.nD Cert.Kernel.τ Cert.Kernel.sig) → Buf (Elt Bits) ℓ) : Prop :=
  ∀ c : Dev Cert.Kernel.nD,
    (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_ScsKernel (m : (ℓ : Loc Cert.ScsKernel.nD Cert.ScsKernel.τ Cert.ScsKernel.sig) → Buf (Elt Bits) ℓ) : Prop :=
  True

def Pre_ScsKernelIdeal (m : (ℓ : Loc Cert.ScsKernelIdeal.nD Cert.ScsKernelIdeal.τ Cert.ScsKernelIdeal.sig) → Buf (Elt Ideal) ℓ) : Prop :=
  True

def Pre_FirstIndexIdeal (m : (ℓ : Loc Cert.FirstIndexIdeal.nD Cert.FirstIndexIdeal.τ Cert.FirstIndexIdeal.sig) → Buf (Elt Ideal) ℓ) : Prop :=
  True

def quiescent_Kernel [hKernel : Cert.Kernel.Facts] [hPre_drawn : Cert.Pre_drawn.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ScsKernel [hScsKernel : Cert.ScsKernel.Facts] : Prop :=
  ∀ (m : (ℓ : Loc Cert.ScsKernel.nD Cert.ScsKernel.τ Cert.ScsKernel.sig) → Buf (Elt Bits) ℓ) (g : Dev Cert.ScsKernel.nD → PrngReg), Pre_ScsKernel m →
    θ_run (Cert.ScsKernel.defs (F := Bits)) (Cert.ScsKernel.threads (F := Bits)) ⟨m, fun _ => 0, g⟩ (fun r => (∀ c : Dev Cert.ScsKernel.nD,
      r.2.mem ((c.tc : Thread Cert.ScsKernel.nD Cert.ScsKernel.τ).loc Cert.ScsKernel.main_arg0) = m ((c.tc : Thread Cert.ScsKernel.nD Cert.ScsKernel.τ).loc Cert.ScsKernel.main_arg0)
      ∧ r.2.mem ((c.tc : Thread Cert.ScsKernel.nD Cert.ScsKernel.τ).loc Cert.ScsKernel.main_arg1) = m ((c.tc : Thread Cert.ScsKernel.nD Cert.ScsKernel.τ).loc Cert.ScsKernel.main_arg1)
      ∧ r.2.mem ((c.tc : Thread Cert.ScsKernel.nD Cert.ScsKernel.τ).loc Cert.ScsKernel.main_arg2) = m ((c.tc : Thread Cert.ScsKernel.nD Cert.ScsKernel.τ).loc Cert.ScsKernel.main_arg2)
      ∧ r.2.mem ((c.tc : Thread Cert.ScsKernel.nD Cert.ScsKernel.τ).loc Cert.ScsKernel.main_arg3) = m ((c.tc : Thread Cert.ScsKernel.nD Cert.ScsKernel.τ).loc Cert.ScsKernel.main_arg3)
      ∧ r.2.mem ((c.tc : Thread Cert.ScsKernel.nD Cert.ScsKernel.τ).loc Cert.ScsKernel.main_arg4) = m ((c.tc : Thread Cert.ScsKernel.nD Cert.ScsKernel.τ).loc Cert.ScsKernel.main_arg4))
      ∧ r.2.sem = fun _ => 0)

def quiescent_ScsKernelIdeal [hScsKernelIdeal : Cert.ScsKernelIdeal.Facts] : Prop :=
  ∀ (m : (ℓ : Loc Cert.ScsKernelIdeal.nD Cert.ScsKernelIdeal.τ Cert.ScsKernelIdeal.sig) → Buf (Elt Ideal) ℓ) (g : Dev Cert.ScsKernelIdeal.nD → PrngReg), Pre_ScsKernelIdeal m →
    θ_run (Cert.ScsKernelIdeal.defs (F := Ideal)) (Cert.ScsKernelIdeal.threads (F := Ideal)) ⟨m, fun _ => 0, g⟩ (fun r => (∀ c : Dev Cert.ScsKernelIdeal.nD,
      r.2.mem ((c.tc : Thread Cert.ScsKernelIdeal.nD Cert.ScsKernelIdeal.τ).loc Cert.ScsKernelIdeal.main_arg0) = m ((c.tc : Thread Cert.ScsKernelIdeal.nD Cert.ScsKernelIdeal.τ).loc Cert.ScsKernelIdeal.main_arg0)
      ∧ r.2.mem ((c.tc : Thread Cert.ScsKernelIdeal.nD Cert.ScsKernelIdeal.τ).loc Cert.ScsKernelIdeal.main_arg1) = m ((c.tc : Thread Cert.ScsKernelIdeal.nD Cert.ScsKernelIdeal.τ).loc Cert.ScsKernelIdeal.main_arg1)
      ∧ r.2.mem ((c.tc : Thread Cert.ScsKernelIdeal.nD Cert.ScsKernelIdeal.τ).loc Cert.ScsKernelIdeal.main_arg2) = m ((c.tc : Thread Cert.ScsKernelIdeal.nD Cert.ScsKernelIdeal.τ).loc Cert.ScsKernelIdeal.main_arg2)
      ∧ r.2.mem ((c.tc : Thread Cert.ScsKernelIdeal.nD Cert.ScsKernelIdeal.τ).loc Cert.ScsKernelIdeal.main_arg3) = m ((c.tc : Thread Cert.ScsKernelIdeal.nD Cert.ScsKernelIdeal.τ).loc Cert.ScsKernelIdeal.main_arg3)
      ∧ r.2.mem ((c.tc : Thread Cert.ScsKernelIdeal.nD Cert.ScsKernelIdeal.τ).loc Cert.ScsKernelIdeal.main_arg4) = m ((c.tc : Thread Cert.ScsKernelIdeal.nD Cert.ScsKernelIdeal.τ).loc Cert.ScsKernelIdeal.main_arg4))
      ∧ r.2.sem = fun _ => 0)

def quiescent_FirstIndexIdeal [hFirstIndexIdeal : Cert.FirstIndexIdeal.Facts] : Prop :=
  ∀ (m : (ℓ : Loc Cert.FirstIndexIdeal.nD Cert.FirstIndexIdeal.τ Cert.FirstIndexIdeal.sig) → Buf (Elt Ideal) ℓ) (g : Dev Cert.FirstIndexIdeal.nD → PrngReg), Pre_FirstIndexIdeal m →
    θ_run (Cert.FirstIndexIdeal.defs (F := Ideal)) (onTc (τ := Cert.FirstIndexIdeal.τ) (Cert.FirstIndexIdeal.main (F := Ideal))) ⟨m, fun _ => 0, g⟩ (fun r => (∀ c : Dev Cert.FirstIndexIdeal.nD,
      r.2.mem ((c.tc : Thread Cert.FirstIndexIdeal.nD Cert.FirstIndexIdeal.τ).loc Cert.FirstIndexIdeal.main_arg0) = m ((c.tc : Thread Cert.FirstIndexIdeal.nD Cert.FirstIndexIdeal.τ).loc Cert.FirstIndexIdeal.main_arg0)
      ∧ r.2.mem ((c.tc : Thread Cert.FirstIndexIdeal.nD Cert.FirstIndexIdeal.τ).loc Cert.FirstIndexIdeal.main_arg1) = m ((c.tc : Thread Cert.FirstIndexIdeal.nD Cert.FirstIndexIdeal.τ).loc Cert.FirstIndexIdeal.main_arg1)
      ∧ r.2.mem ((c.tc : Thread Cert.FirstIndexIdeal.nD Cert.FirstIndexIdeal.τ).loc Cert.FirstIndexIdeal.main_arg2) = m ((c.tc : Thread Cert.FirstIndexIdeal.nD Cert.FirstIndexIdeal.τ).loc Cert.FirstIndexIdeal.main_arg2)
      ∧ r.2.mem ((c.tc : Thread Cert.FirstIndexIdeal.nD Cert.FirstIndexIdeal.τ).loc Cert.FirstIndexIdeal.main_arg3) = m ((c.tc : Thread Cert.FirstIndexIdeal.nD Cert.FirstIndexIdeal.τ).loc Cert.FirstIndexIdeal.main_arg3)
      ∧ r.2.mem ((c.tc : Thread Cert.FirstIndexIdeal.nD Cert.FirstIndexIdeal.τ).loc Cert.FirstIndexIdeal.main_arg4) = m ((c.tc : Thread Cert.FirstIndexIdeal.nD Cert.FirstIndexIdeal.τ).loc Cert.FirstIndexIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_ScsKernel_ScsKernelIdeal : Prop :=
  True

def algebraic_ScsKernelIdeal_FirstIndexIdeal [hScsKernelIdeal : Cert.ScsKernelIdeal.Facts] [hFirstIndexIdeal : Cert.FirstIndexIdeal.Facts] : Prop :=
  ∀ (m : (ℓ : Loc Cert.ScsKernelIdeal.nD Cert.ScsKernelIdeal.τ Cert.ScsKernelIdeal.sig) → Buf (Elt Ideal) ℓ) (g : Dev Cert.ScsKernelIdeal.nD → PrngReg)
    (m' : (ℓ : Loc Cert.FirstIndexIdeal.nD Cert.FirstIndexIdeal.τ Cert.FirstIndexIdeal.sig) → Buf (Elt Ideal) ℓ) (g' : Dev Cert.FirstIndexIdeal.nD → PrngReg), Pre_ScsKernelIdeal m →
    (∀ c : Dev Cert.ScsKernelIdeal.nD,
      m' ((c.tc : Thread Cert.FirstIndexIdeal.nD Cert.FirstIndexIdeal.τ).loc Cert.FirstIndexIdeal.main_arg0) = m ((c.tc : Thread Cert.ScsKernelIdeal.nD Cert.ScsKernelIdeal.τ).loc Cert.ScsKernelIdeal.main_arg0)
      ∧ m' ((c.tc : Thread Cert.FirstIndexIdeal.nD Cert.FirstIndexIdeal.τ).loc Cert.FirstIndexIdeal.main_arg1) = m ((c.tc : Thread Cert.ScsKernelIdeal.nD Cert.ScsKernelIdeal.τ).loc Cert.ScsKernelIdeal.main_arg1)
      ∧ m' ((c.tc : Thread Cert.FirstIndexIdeal.nD Cert.FirstIndexIdeal.τ).loc Cert.FirstIndexIdeal.main_arg2) = m ((c.tc : Thread Cert.ScsKernelIdeal.nD Cert.ScsKernelIdeal.τ).loc Cert.ScsKernelIdeal.main_arg2)
      ∧ m' ((c.tc : Thread Cert.FirstIndexIdeal.nD Cert.FirstIndexIdeal.τ).loc Cert.FirstIndexIdeal.main_arg3) = m ((c.tc : Thread Cert.ScsKernelIdeal.nD Cert.ScsKernelIdeal.τ).loc Cert.ScsKernelIdeal.main_arg3)
      ∧ m' ((c.tc : Thread Cert.FirstIndexIdeal.nD Cert.FirstIndexIdeal.τ).loc Cert.FirstIndexIdeal.main_arg4) = m ((c.tc : Thread Cert.ScsKernelIdeal.nD Cert.ScsKernelIdeal.τ).loc Cert.ScsKernelIdeal.main_arg4)) →
    ∃ (v0 : (c : Dev Cert.ScsKernelIdeal.nD) → Buf (Elt Ideal) ((c.tc : Thread Cert.ScsKernelIdeal.nD Cert.ScsKernelIdeal.τ).loc Cert.ScsKernelIdeal.main_v4)),
      θ_run (Cert.ScsKernelIdeal.defs (F := Ideal)) (Cert.ScsKernelIdeal.threads (F := Ideal)) ⟨m, fun _ => 0, g⟩ (fun r => ∀ c : Dev Cert.ScsKernelIdeal.nD,
          r.2.mem ((c.tc : Thread Cert.ScsKernelIdeal.nD Cert.ScsKernelIdeal.τ).loc Cert.ScsKernelIdeal.main_v4) = v0 c
          ∧ r.2.mem ((c.tc : Thread Cert.ScsKernelIdeal.nD Cert.ScsKernelIdeal.τ).loc Cert.ScsKernelIdeal.main_arg0) = m ((c.tc : Thread Cert.ScsKernelIdeal.nD Cert.ScsKernelIdeal.τ).loc Cert.ScsKernelIdeal.main_arg0)
          ∧ r.2.mem ((c.tc : Thread Cert.ScsKernelIdeal.nD Cert.ScsKernelIdeal.τ).loc Cert.ScsKernelIdeal.main_arg1) = m ((c.tc : Thread Cert.ScsKernelIdeal.nD Cert.ScsKernelIdeal.τ).loc Cert.ScsKernelIdeal.main_arg1)
          ∧ r.2.mem ((c.tc : Thread Cert.ScsKernelIdeal.nD Cert.ScsKernelIdeal.τ).loc Cert.ScsKernelIdeal.main_arg2) = m ((c.tc : Thread Cert.ScsKernelIdeal.nD Cert.ScsKernelIdeal.τ).loc Cert.ScsKernelIdeal.main_arg2)
          ∧ r.2.mem ((c.tc : Thread Cert.ScsKernelIdeal.nD Cert.ScsKernelIdeal.τ).loc Cert.ScsKernelIdeal.main_arg3) = m ((c.tc : Thread Cert.ScsKernelIdeal.nD Cert.ScsKernelIdeal.τ).loc Cert.ScsKernelIdeal.main_arg3)
          ∧ r.2.mem ((c.tc : Thread Cert.ScsKernelIdeal.nD Cert.ScsKernelIdeal.τ).loc Cert.ScsKernelIdeal.main_arg4) = m ((c.tc : Thread Cert.ScsKernelIdeal.nD Cert.ScsKernelIdeal.τ).loc Cert.ScsKernelIdeal.main_arg4))
      ∧ θ_run (Cert.FirstIndexIdeal.defs (F := Ideal)) (onTc (τ := Cert.FirstIndexIdeal.τ) (Cert.FirstIndexIdeal.main (F := Ideal))) ⟨m', fun _ => 0, g'⟩ (fun r => ∀ c : Dev Cert.FirstIndexIdeal.nD,
          r.2.mem ((c.tc : Thread Cert.FirstIndexIdeal.nD Cert.FirstIndexIdeal.τ).loc Cert.FirstIndexIdeal.main_v2) = v0 c
          ∧ r.2.mem ((c.tc : Thread Cert.FirstIndexIdeal.nD Cert.FirstIndexIdeal.τ).loc Cert.FirstIndexIdeal.main_arg0) = m' ((c.tc : Thread Cert.FirstIndexIdeal.nD Cert.FirstIndexIdeal.τ).loc Cert.FirstIndexIdeal.main_arg0)
          ∧ r.2.mem ((c.tc : Thread Cert.FirstIndexIdeal.nD Cert.FirstIndexIdeal.τ).loc Cert.FirstIndexIdeal.main_arg1) = m' ((c.tc : Thread Cert.FirstIndexIdeal.nD Cert.FirstIndexIdeal.τ).loc Cert.FirstIndexIdeal.main_arg1)
          ∧ r.2.mem ((c.tc : Thread Cert.FirstIndexIdeal.nD Cert.FirstIndexIdeal.τ).loc Cert.FirstIndexIdeal.main_arg2) = m' ((c.tc : Thread Cert.FirstIndexIdeal.nD Cert.FirstIndexIdeal.τ).loc Cert.FirstIndexIdeal.main_arg2)
          ∧ r.2.mem ((c.tc : Thread Cert.FirstIndexIdeal.nD Cert.FirstIndexIdeal.τ).loc Cert.FirstIndexIdeal.main_arg3) = m' ((c.tc : Thread Cert.FirstIndexIdeal.nD Cert.FirstIndexIdeal.τ).loc Cert.FirstIndexIdeal.main_arg3)
          ∧ r.2.mem ((c.tc : Thread Cert.FirstIndexIdeal.nD Cert.FirstIndexIdeal.τ).loc Cert.FirstIndexIdeal.main_arg4) = m' ((c.tc : Thread Cert.FirstIndexIdeal.nD Cert.FirstIndexIdeal.τ).loc Cert.FirstIndexIdeal.main_arg4))

def Claim : Prop :=
  ∃ (hKernel : Cert.Kernel.Facts) (hKernelIdeal : Cert.KernelIdeal.Facts) (hReferenceIdeal : Cert.ReferenceIdeal.Facts) (hScsKernel : Cert.ScsKernel.Facts) (hScsKernelIdeal : Cert.ScsKernelIdeal.Facts) (hFirstIndexIdeal : Cert.FirstIndexIdeal.Facts) (hPre_drawn : Cert.Pre_drawn.Facts),
    quiescent_Kernel (hKernel := hKernel) (hPre_drawn := hPre_drawn)
    ∧ quiescent_KernelIdeal (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ quiescent_ScsKernel (hScsKernel := hScsKernel)
    ∧ quiescent_ScsKernelIdeal (hScsKernelIdeal := hScsKernelIdeal)
    ∧ quiescent_FirstIndexIdeal (hFirstIndexIdeal := hFirstIndexIdeal)
    ∧ preserves_Kernel_KernelIdeal
    ∧ algebraic_KernelIdeal_ReferenceIdeal (hKernelIdeal := hKernelIdeal) (hReferenceIdeal := hReferenceIdeal) (hPre_drawn := hPre_drawn)
    ∧ preserves_ScsKernel_ScsKernelIdeal
    ∧ algebraic_ScsKernelIdeal_FirstIndexIdeal (hScsKernelIdeal := hScsKernelIdeal) (hFirstIndexIdeal := hFirstIndexIdeal)
-- ==== Pre_drawn.lean ====
abbrev S32x8x128x128 : Shape := ⟨4, ![32, 8, 128, 128]⟩
abbrev S32x128 : Shape := ⟨2, ![32, 128]⟩
abbrev S32x128x2 : Shape := ⟨3, ![32, 128, 2]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel
  bcast_S_S32x128x2 : S_.BroadcastsInDim S32x128x2 (![] : Fin 0 → Fin S32x128x2.rank)
  reducesTo_S32x128x2_S_d0_1_2 : S32x128x2.ReducesTo [0, 1, 2] S_
  bcast_S_S32x8x128x128 : S_.BroadcastsInDim S32x8x128x128 (![] : Fin 0 → Fin S32x8x128x128.rank)
  reducesTo_S32x8x128x128_S_d0_1_2_3 : S32x8x128x128.ReducesTo [0, 1, 2, 3] S_

variable [Facts]

def fn_part1 {F : FTy → Type} [FloatOps F] (main_v14 : IVec S_ 1) (main_v15 : FVec F S32x8x128x128 .f32) : IVec S_ 1 :=
  let main_cst : FVec F S_ .f32 := constant S_ .f32 0x7F800000#32
  let main_v16 : FVec F S32x8x128x128 .f32 := broadcastInDim S32x8x128x128 ![] bcast_S_S32x8x128x128 main_cst
  let main_v17 : IVec S32x8x128x128 1 := cmpf .olt main_v15 main_v16
  let main_c_7 : IVec S_ 1 := constantI S_ 1 1#1
  let main_v18 : IVec S_ 1 := (fun x v => Host.reduce IntOp.andi x v reducesTo_S32x8x128x128_S_d0_1_2_3 h_S_) main_v17 main_c_7
  let main_v19 : IVec S_ 1 := andi main_v14 main_v18
  main_v19

def fn {F : FTy → Type} [FloatOps F] (main_arg0 : FVec F S32x8x128x128 .f32) (main_arg1 : IVec S32x128 32) (main_arg2 : IVec S32x128 32) (main_arg3 : IVec S32x128x2 32) (main_arg4 : FVec F S32x128x2 .f32) : IVec S_ 1 :=
  let main_c : IVec S_ 32 := constantI S_ 32 0#32
  let main_v0 : IVec S32x128 32 := broadcastInDim S32x128 ![] bcast_S_S32x128 main_c
  let main_v1 : IVec S32x128 1 := cmpi .sge main_arg2 main_v0
  let main_c_0 : IVec S_ 1 := constantI S_ 1 1#1
  let main_v2 : IVec S_ 1 := (fun x v => Host.reduce IntOp.andi x v reducesTo_S32x128_S_d0_1 h_S_) main_v1 main_c_0
  let main_c_1 : IVec S_ 32 := constantI S_ 32 16384#32
  let main_v3 : IVec S32x128 32 := broadcastInDim S32x128 ![] bcast_S_S32x128 main_c_1
  let main_v4 : IVec S32x128 1 := cmpi .slt main_arg2 main_v3
  let main_c_2 : IVec S_ 1 := constantI S_ 1 1#1
  let main_v5 : IVec S_ 1 := (fun x v => Host.reduce IntOp.andi x v reducesTo_S32x128_S_d0_1 h_S_) main_v4 main_c_2
  let main_v6 : IVec S_ 1 := andi main_v2 main_v5
  let main_c_3 : IVec S_ 32 := constantI S_ 32 0#32
  let main_v7 : IVec S32x128x2 32 := broadcastInDim S32x128x2 ![] bcast_S_S32x128x2 main_c_3
  let main_v8 : IVec S32x128x2 1 := cmpi .sge main_arg3 main_v7
  let main_c_4 : IVec S_ 1 := constantI S_ 1 1#1
  let main_v9 : IVec S_ 1 := (fun x v => Host.reduce IntOp.andi x v reducesTo_S32x128x2_S_d0_1_2 h_S_) main_v8 main_c_4
  let main_v10 : IVec S_ 1 := andi main_v6 main_v9
  let main_c_5 : IVec S_ 32 := constantI S_ 32 2#32
  let main_v11 : IVec S32x128x2 32 := broadcastInDim S32x128x2 ![] bcast_S_S32x128x2 main_c_5
  let main_v12 : IVec S32x128x2 1 := cmpi .slt main_arg3 main_v11
  let main_c_6 : IVec S_ 1 := constantI S_ 1 1#1
  let main_v13 : IVec S_ 1 := (fun x v => Host.reduce IntOp.andi x v reducesTo_S32x128x2_S_d0_1_2 h_S_) main_v12 main_c_6
  let main_v14 : IVec S_ 1 := andi main_v10 main_v13
  let main_v15 : FVec F S32x8x128x128 .f32 := Host.absf main_arg0
  fn_part1 (F := F) main_v14 main_v15
-- ==== Kernel.lean ====
abbrev S32x8x128x128 : Shape := ⟨4, ![32, 8, 128, 128]⟩
abbrev S32x128 : Shape := ⟨2, ![32, 128]⟩
abbrev S32x128x2 : Shape := ⟨3, ![32, 128, 2]⟩
abbrev S4194304 : Shape := ⟨1, ![4194304]⟩
abbrev S256x128 : Shape := ⟨2, ![256, 128]⟩
abbrev S8x128 : Shape := ⟨2, ![8, 128]⟩
abbrev S2 : Shape := ⟨1, ![2]⟩
abbrev S8 : Shape := ⟨1, ![8]⟩
abbrev S4x128 : Shape := ⟨2, ![4, 128]⟩
abbrev S1 : Shape := ⟨1, ![1]⟩
abbrev S_ : Shape := ⟨0, ![]⟩
abbrev S1x128 : Shape := ⟨2, ![1, 128]⟩
abbrev S128 : Shape := ⟨1, ![128]⟩
abbrev S16384 : Shape := ⟨1, ![16384]⟩
abbrev S8x32x128 : Shape := ⟨3, ![8, 32, 128]⟩
abbrev S2x32x128 : Shape := ⟨3, ![2, 32, 128]⟩
abbrev S1x1 : Shape := ⟨2, ![1, 1]⟩
abbrev S1x32x128 : Shape := ⟨3, ![1, 32, 128]⟩
abbrev S1x1x1 : Shape := ⟨3, ![1, 1, 1]⟩

abbrev nBuf : Table → Nat
  | .hbm => 12
  | .local .tc .vmem => 4
  | .local .tc .smem => 1
  | .local .scVector .vmem => 2
  | _ => 0

abbrev bufTy : (tb : Table) → Fin (nBuf tb) → BufTy
  | .hbm, ⟨0, _⟩ => ⟨S32x8x128x128, .f32⟩
  | .hbm, ⟨1, _⟩ => ⟨S32x128, .i32⟩
  | .hbm, ⟨2, _⟩ => ⟨S32x128, .i32⟩
  | .hbm, ⟨3, _⟩ => ⟨S32x128x2, .i32⟩
  | .hbm, ⟨4, _⟩ => ⟨S32x128x2, .f32⟩
  | .hbm, ⟨5, _⟩ => ⟨S4194304, .f32⟩
  | .hbm, ⟨6, _⟩ => ⟨S256x128, .f32⟩
  | .hbm, ⟨7, _⟩ => ⟨S8x32x128, .f32⟩
  | .hbm, ⟨8, _⟩ => ⟨S2x32x128, .i32⟩
  | .hbm, ⟨9, _⟩ => ⟨S2x32x128, .f32⟩
  | .hbm, ⟨10, _⟩ => ⟨S1x1, .f32⟩
  | .hbm, ⟨11, _⟩ => ⟨S_, .f32⟩
  | .local .tc .vmem, ⟨0, _⟩ => ⟨S8x32x128, .f32⟩
  | .local .tc .vmem, ⟨1, _⟩ => ⟨S32x128, .i32⟩
  | .local .tc .vmem, ⟨2, _⟩ => ⟨S2x32x128, .i32⟩
  | .local .tc .vmem, ⟨3, _⟩ => ⟨S2x32x128, .f32⟩
  | .local .tc .smem, ⟨0, _⟩ => ⟨S1x1, .f32⟩
  | .local .scVector .vmem, ⟨0, _⟩ => ⟨S8x128, .i32⟩
  | .local .scVector .vmem, ⟨1, _⟩ => ⟨S8x128, .f32⟩
  | _, _ => ⟨S32x8x128x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v0_scv : Ref sig .scVector := ⟨.hbm, 5, rfl⟩
abbrev main_arg2_scv : Ref sig .scVector := ⟨.hbm, 2, rfl⟩
abbrev main_v1_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 18
abbrev cc1_sem1_0 : DmaSem sig := 19
abbrev cc1_sem2_0 : DmaSem sig := 20
abbrev cc1_sem3_0 : DmaSem sig := 21
abbrev cc1_sem4_0 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v30 : BitVec 32 := Scalar.addi v29 c0_i32_10
  let c0_i32_14 : BitVec 32 := 0#32
  ![v30.toNat, 0]
def k0_off2 (i : grid0.Coords) (c0_i32_35 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32_34 : BitVec 32 := 8#32
  let v51 : BitVec 32 := Scalar.muli v28 c8_i32_34
  let v52 : BitVec 32 := Scalar.addi v51 c0_i32_35
  let c8_i32_36 : BitVec 32 := 8#32
  let v53 : BitVec 32 := Scalar.muli v52 c8_i32_36
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v54 : BitVec 32 := Scalar.addi v53 v18
  let c16384_i32 : BitVec 32 := 16384#32
  let v55 : BitVec 32 := Scalar.muli v54 c16384_i32
  ![v55.toNat]
def k0_off3 (i : grid0.Coords) (c0_i32_123 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c32_i32 : BitVec 32 := 32#32
  let v169 : BitVec 32 := Scalar.muli v18 c32_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32_122 : BitVec 32 := 8#32
  let v170 : BitVec 32 := Scalar.muli v28 c8_i32_122
  let v171 : BitVec 32 := Scalar.addi v169 v170
  let v172 : BitVec 32 := Scalar.addi v171 c0_i32_123
  let c0_i32_127 : BitVec 32 := 0#32
  ![v172.toNat, 0]
abbrev grid1 : Pipeline.Grid := .none

abbrev stage1_0 : Fin 1 → Memref sig .tc .vmem S8x32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x32x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x8x128x128 : Shape := ⟨4, ![32, 8, 128, 128]⟩
abbrev S32x128 : Shape := ⟨2, ![32, 128]⟩
abbrev S32x128x2 : Shape := ⟨3, ![32, 128, 2]⟩
abbrev S32x8x16384 : Shape := ⟨3, ![32, 8, 16384]⟩
abbrev S32x16384x8 : Shape := ⟨3, ![32, 16384, 8]⟩
abbrev S32x128x1 : Shape := ⟨3, ![32, 128, 1]⟩
abbrev S32x128x8 : Shape := ⟨3, ![32, 128, 8]⟩
abbrev S_ : Shape := ⟨0, ![]⟩
abbrev S32x128x8x1 : Shape := ⟨4, ![32, 128, 8, 1]⟩
abbrev S1 : Shape := ⟨1, ![1]⟩
abbrev S1x1x1x1 : Shape := ⟨4, ![1, 1, 1, 1]⟩
abbrev S4096x8 : Shape := ⟨2, ![4096, 8]⟩
abbrev S4096x2 : Shape := ⟨2, ![4096, 2]⟩
abbrev S4096 : Shape := ⟨1, ![4096]⟩
abbrev S4096x1 : Shape := ⟨2, ![4096, 1]⟩
abbrev S4096x1x1 : Shape := ⟨3, ![4096, 1, 1]⟩
abbrev S1x1x1 : Shape := ⟨3, ![1, 1, 1]⟩

abbrev nBuf : Space → Nat
  | .hbm => 267
  | .vmem => 0
  | .smem => 0
  | _ => 0

abbrev hbmTy0_0 (i : Nat) : BufTy := match i % 128 with
  | 0 => ⟨S32x8x128x128, .f32⟩
  | 1 => ⟨S32x128, .i32⟩
  | 2 => ⟨S32x128, .i32⟩
  | 3 => ⟨S32x128x2, .i32⟩
  | 4 => ⟨S32x128x2, .f32⟩
  | 5 => ⟨S32x8x16384, .f32⟩
  | 6 => ⟨S32x16384x8, .f32⟩
  | 7 => ⟨S32x128x1, .i32⟩
  | 8 => ⟨S32x128x8, .i32⟩
  | 9 => ⟨S_, .i32⟩
  | 10 => ⟨S32x128x8, .i32⟩
  | 11 => ⟨S32x128x8, .i1⟩
  | 12 => ⟨S_, .i32⟩
  | 13 => ⟨S32x128x8, .i32⟩
  | 14 => ⟨S32x128x8, .i32⟩
  | 15 => ⟨S32x128x8, .i32⟩
  | 16 => ⟨S32x128x8x1, .i32⟩
  | 17 => ⟨S1, .i32⟩
  | 18 => ⟨S_, .i32⟩
  | 19 => ⟨S32x128x8x1, .i32⟩
  | 20 => ⟨S32x128x8x1, .i1⟩
  | 21 => ⟨S1x1x1x1, .i32⟩
  | 22 => ⟨S32x128x8x1, .i32⟩
  | 23 => ⟨S32x128x8x1, .i1⟩
  | 24 => ⟨S32x128x8x1, .i1⟩
  | 25 => ⟨S_, .i1⟩
  | 26 => ⟨S32x128x8, .i1⟩
  | 27 => ⟨S32x128x8, .f32⟩
  | 28 => ⟨S_, .f32⟩
  | 29 => ⟨S32x128x8, .f32⟩
  | 30 => ⟨S32x128x8, .f32⟩
  | 31 => ⟨S4096x8, .f32⟩
  | 32 => ⟨S4096x2, .i32⟩
  | 33 => ⟨S4096x2, .f32⟩
  | 34 => ⟨S4096, .i32⟩
  | 35 => ⟨S4096, .f32⟩
  | 36 => ⟨S4096x2, .f32⟩
  | 37 => ⟨S4096x1, .i32⟩
  | 38 => ⟨S4096, .i32⟩
  | 39 => ⟨S4096x2, .f32⟩
  | 40 => ⟨S_, .f32⟩
  | 41 => ⟨S4096, .f32⟩
  | 42 => ⟨S4096, .f32⟩
  | 43 => ⟨S4096x1, .i32⟩
  | 44 => ⟨S_, .i32⟩
  | 45 => ⟨S4096x1, .i32⟩
  | 46 => ⟨S4096x1, .i1⟩
  | 47 => ⟨S_, .i32⟩
  | 48 => ⟨S4096x1, .i32⟩
  | 49 => ⟨S4096x1, .i32⟩
  | 50 => ⟨S4096x1, .i32⟩
  | 51 => ⟨S4096x1x1, .i32⟩
  | 52 => ⟨S1, .i32⟩
  | 53 => ⟨S_, .i32⟩
  | 54 => ⟨S4096x1x1, .i32⟩
  | 55 => ⟨S4096x1x1, .i1⟩
  | 56 => ⟨S1x1x1, .i32⟩
  | 57 => ⟨S4096x1x1, .i32⟩
  | 58 => ⟨S4096x1x1, .i1⟩
  | 59 => ⟨S4096x1x1, .i1⟩
  | 60 => ⟨S_, .i1⟩
  | 61 => ⟨S4096x1, .i1⟩
  | 62 => ⟨S4096x1, .f32⟩
  | 63 => ⟨S_, .f32⟩
  | 64 => ⟨S4096x1, .f32⟩
  | 65 => ⟨S4096x1, .f32⟩
  | 66 => ⟨S4096, .f32⟩
  | 67 => ⟨S4096, .f32⟩
  | 68 => ⟨S_, .f32⟩
  | 69 => ⟨S_, .f32⟩
  | 70 => ⟨S_, .f32⟩
  | 71 => ⟨S_, .i1⟩
  | 72 => ⟨S4096, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S4096x2, .f32⟩
  | 82 => ⟨S4096x1, .i32⟩
  | 83 => ⟨S4096, .i32⟩
  | 84 => ⟨S4096x2, .f32⟩
  | 85 => ⟨S_, .f32⟩
  | 86 => ⟨S4096, .f32⟩
  | 87 => ⟨S4096, .f32⟩
  | 88 => ⟨S4096x1, .i32⟩
  | 89 => ⟨S_, .i32⟩
  | 90 => ⟨S4096x1, .i32⟩
  | 91 => ⟨S4096x1, .i1⟩
  | 92 => ⟨S_, .i32⟩
  | 93 => ⟨S4096x1, .i32⟩
  | 94 => ⟨S4096x1, .i32⟩
  | 95 => ⟨S4096x1, .i32⟩
  | 96 => ⟨S4096x1x1, .i32⟩
  | 97 => ⟨S1, .i32⟩
  | 98 => ⟨S_, .i32⟩
  | 99 => ⟨S4096x1x1, .i32⟩
  | 100 => ⟨S4096x1x1, .i1⟩
  | 101 => ⟨S1x1x1, .i32⟩
  | 102 => ⟨S4096x1x1, .i32⟩
  | 103 => ⟨S4096x1x1, .i1⟩
  | 104 => ⟨S4096x1x1, .i1⟩
  | 105 => ⟨S_, .i1⟩
  | 106 => ⟨S4096x1, .i1⟩
  | 107 => ⟨S4096x1, .f32⟩
  | 108 => ⟨S_, .f32⟩
  | 109 => ⟨S4096x1, .f32⟩
  | 110 => ⟨S4096x1, .f32⟩
  | 111 => ⟨S4096, .f32⟩
  | 112 => ⟨S4096, .f32⟩
  | 113 => ⟨S_, .f32⟩
  | 114 => ⟨S_, .f32⟩
  | 115 => ⟨S_, .f32⟩
  | 116 => ⟨S_, .i1⟩
  | 117 => ⟨S4096, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S4096x1, .i32⟩
  | 127 => ⟨S4096, .i32⟩
  | _ => ⟨S32x8x128x128, .f32⟩

abbrev hbmTy0_1 (i : Nat) : BufTy := match i % 128 with
  | 0 => ⟨S_, .i32⟩
  | 1 => ⟨S4096, .i32⟩
  | 2 => ⟨S4096, .i1⟩
  | 3 => ⟨S4096, .f32⟩
  | 4 => ⟨S4096x1, .i32⟩
  | 5 => ⟨S4096, .i32⟩
  | 6 => ⟨S_, .i32⟩
  | 7 => ⟨S4096, .i32⟩
  | 8 => ⟨S4096, .i1⟩
  | 9 => ⟨S4096, .f32⟩
  | 10 => ⟨S4096x1, .f32⟩
  | 11 => ⟨S4096, .f32⟩
  | 12 => ⟨S4096x1, .f32⟩
  | 13 => ⟨S4096, .f32⟩
  | 14 => ⟨S4096, .f32⟩
  | 15 => ⟨S4096, .f32⟩
  | 16 => ⟨S4096, .f32⟩
  | 17 => ⟨S_, .f32⟩
  | 18 => ⟨S4096, .f32⟩
  | 19 => ⟨S4096, .i1⟩
  | 20 => ⟨S_, .f32⟩
  | 21 => ⟨S4096, .f32⟩
  | 22 => ⟨S4096, .f32⟩
  | 23 => ⟨S4096, .f32⟩
  | 24 => ⟨S_, .f32⟩
  | 25 => ⟨S4096, .f32⟩
  | 26 => ⟨S4096, .f32⟩
  | 27 => ⟨S4096, .f32⟩
  | 28 => ⟨S_, .f32⟩
  | 29 => ⟨S_, .f32⟩
  | 30 => ⟨S_, .f32⟩
  | 31 => ⟨S_, .i1⟩
  | 32 => ⟨S4096, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S4096x1, .f32⟩
  | 42 => ⟨S4096, .f32⟩
  | 43 => ⟨S4096x1, .f32⟩
  | 44 => ⟨S4096, .f32⟩
  | 45 => ⟨S4096, .f32⟩
  | 46 => ⟨S4096, .f32⟩
  | 47 => ⟨S4096, .f32⟩
  | 48 => ⟨S_, .f32⟩
  | 49 => ⟨S4096, .f32⟩
  | 50 => ⟨S4096, .i1⟩
  | 51 => ⟨S_, .f32⟩
  | 52 => ⟨S4096, .f32⟩
  | 53 => ⟨S4096, .f32⟩
  | 54 => ⟨S4096, .f32⟩
  | 55 => ⟨S_, .f32⟩
  | 56 => ⟨S4096, .f32⟩
  | 57 => ⟨S4096, .f32⟩
  | 58 => ⟨S4096, .f32⟩
  | 59 => ⟨S_, .f32⟩
  | 60 => ⟨S_, .f32⟩
  | 61 => ⟨S_, .f32⟩
  | 62 => ⟨S_, .i1⟩
  | 63 => ⟨S4096, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S4096x1, .f32⟩
  | 73 => ⟨S4096, .f32⟩
  | 74 => ⟨S4096x1, .f32⟩
  | 75 => ⟨S4096, .f32⟩
  | 76 => ⟨S4096, .f32⟩
  | 77 => ⟨S4096, .f32⟩
  | 78 => ⟨S4096, .f32⟩
  | 79 => ⟨S_, .f32⟩
  | 80 => ⟨S4096, .f32⟩
  | 81 => ⟨S4096, .i1⟩
  | 82 => ⟨S_, .f32⟩
  | 83 => ⟨S4096, .f32⟩
  | 84 => ⟨S4096, .f32⟩
  | 85 => ⟨S4096, .f32⟩
  | 86 => ⟨S_, .f32⟩
  | 87 => ⟨S4096, .f32⟩
  | 88 => ⟨S4096, .f32⟩
  | 89 => ⟨S4096, .f32⟩
  | 90 => ⟨S_, .f32⟩
  | 91 => ⟨S_, .f32⟩
  | 92 => ⟨S_, .f32⟩
  | 93 => ⟨S_, .i1⟩
  | 94 => ⟨S4096, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S4096x1, .f32⟩
  | 104 => ⟨S4096, .f32⟩
  | 105 => ⟨S4096x1, .f32⟩
  | 106 => ⟨S4096, .f32⟩
  | 107 => ⟨S4096, .f32⟩
  | 108 => ⟨S4096, .f32⟩
  | 109 => ⟨S4096, .f32⟩
  | 110 => ⟨S_, .f32⟩
  | 111 => ⟨S4096, .f32⟩
  | 112 => ⟨S4096, .i1⟩
  | 113 => ⟨S_, .f32⟩
  | 114 => ⟨S4096, .f32⟩
  | 115 => ⟨S4096, .f32⟩
  | 116 => ⟨S4096, .f32⟩
  | 117 => ⟨S_, .f32⟩
  | 118 => ⟨S4096, .f32⟩
  | 119 => ⟨S4096, .f32⟩
  | 120 => ⟨S4096, .f32⟩
  | 121 => ⟨S_, .f32⟩
  | 122 => ⟨S_, .f32⟩
  | 123 => ⟨S_, .f32⟩
  | 124 => ⟨S_, .i1⟩
  | 125 => ⟨S4096, .f32⟩
  | 126 => ⟨S_, .f32⟩
  | 127 => ⟨S_, .f32⟩
  | _ => ⟨S32x8x128x128, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | _ => ⟨S32x8x128x128, .f32⟩

abbrev hbmTy (i : Nat) : BufTy := match i / 128 with
  | 0 => hbmTy0_0 i
  | 1 => hbmTy0_1 i
  | 2 => hbmTy0_2 i
  | _ => ⟨S32x8x128x128, .f32⟩

abbrev bufTy : (tb : Table) → Fin (tcTables nBuf tb) → BufTy
  | .hbm, ⟨i, _⟩ => hbmTy i
  | _, _ => ⟨S32x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_cst_0 : Ref sig .tc := ⟨.hbm, 68, rfl⟩
abbrev main_v20 : Ref sig .tc := ⟨.hbm, 69, rfl⟩
abbrev main_cst_1 : Ref sig .tc := ⟨.hbm, 70, rfl⟩
abbrev main_v21 : Ref sig .tc := ⟨.hbm, 71, rfl⟩
abbrev main_v22 : Ref sig .tc := ⟨.hbm, 72, rfl⟩
abbrev main_cst_2 : Ref sig .tc := ⟨.hbm, 73, rfl⟩
abbrev main_v23 : Ref sig .tc := ⟨.hbm, 74, rfl⟩
abbrev main_cst_3 : Ref sig .tc := ⟨.hbm, 75, rfl⟩
abbrev main_v24 : Ref sig .tc := ⟨.hbm, 76, rfl⟩
abbrev main_v25 : Ref sig .tc := ⟨.hbm, 77, rfl⟩
abbrev main_cst_4 : Ref sig .tc := ⟨.hbm, 78, rfl⟩
abbrev main_call2_v0 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_cst_5 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_cst : Ref sig .tc := ⟨.hbm, 108, rfl⟩
abbrev main_call3_v14 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_cst_6 : Ref sig .tc := ⟨.hbm, 113, rfl⟩
abbrev main_v37 : Ref sig .tc := ⟨.hbm, 114, rfl⟩
abbrev main_cst_7 : Ref sig .tc := ⟨.hbm, 115, rfl⟩
abbrev main_v38 : Ref sig .tc := ⟨.hbm, 116, rfl⟩
abbrev main_v39 : Ref sig .tc := ⟨.hbm, 117, rfl⟩
abbrev main_cst_8 : Ref sig .tc := ⟨.hbm, 118, rfl⟩
abbrev main_v40 : Ref sig .tc := ⟨.hbm, 119, rfl⟩
abbrev main_cst_9 : Ref sig .tc := ⟨.hbm, 120, rfl⟩
abbrev main_v41 : Ref sig .tc := ⟨.hbm, 121, rfl⟩
abbrev main_v42 : Ref sig .tc := ⟨.hbm, 122, rfl⟩
abbrev main_cst_10 : Ref sig .tc := ⟨.hbm, 123, rfl⟩
abbrev main_call4_v0 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_c : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_c_11 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_cst_12 : Ref sig .tc := ⟨.hbm, 145, rfl⟩
abbrev main_v61 : Ref sig .tc := ⟨.hbm, 146, rfl⟩
abbrev main_v62 : Ref sig .tc := ⟨.hbm, 147, rfl⟩
abbrev main_cst_13 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_cst_14 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_cst_15 : Ref sig .tc := ⟨.hbm, 156, rfl⟩
abbrev main_v69 : Ref sig .tc := ⟨.hbm, 157, rfl⟩
abbrev main_cst_16 : Ref sig .tc := ⟨.hbm, 158, rfl⟩
abbrev main_v70 : Ref sig .tc := ⟨.hbm, 159, rfl⟩
abbrev main_v71 : Ref sig .tc := ⟨.hbm, 160, rfl⟩
abbrev main_cst_17 : Ref sig .tc := ⟨.hbm, 161, rfl⟩
abbrev main_v72 : Ref sig .tc := ⟨.hbm, 162, rfl⟩
abbrev main_cst_18 : Ref sig .tc := ⟨.hbm, 163, rfl⟩
abbrev main_v73 : Ref sig .tc := ⟨.hbm, 164, rfl⟩
abbrev main_v74 : Ref sig .tc := ⟨.hbm, 165, rfl⟩
abbrev main_cst_19 : Ref sig .tc := ⟨.hbm, 166, rfl⟩
abbrev main_call6_v0 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_cst_20 : Ref sig .tc := ⟨.hbm, 176, rfl⟩
abbrev main_v83 : Ref sig .tc := ⟨.hbm, 177, rfl⟩
abbrev main_v84 : Ref sig .tc := ⟨.hbm, 178, rfl⟩
abbrev main_cst_21 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_cst_22 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_cst_23 : Ref sig .tc := ⟨.hbm, 187, rfl⟩
abbrev main_v91 : Ref sig .tc := ⟨.hbm, 188, rfl⟩
abbrev main_cst_24 : Ref sig .tc := ⟨.hbm, 189, rfl⟩
abbrev main_v92 : Ref sig .tc := ⟨.hbm, 190, rfl⟩
abbrev main_v93 : Ref sig .tc := ⟨.hbm, 191, rfl⟩
abbrev main_cst_25 : Ref sig .tc := ⟨.hbm, 192, rfl⟩
abbrev main_v94 : Ref sig .tc := ⟨.hbm, 193, rfl⟩
abbrev main_cst_26 : Ref sig .tc := ⟨.hbm, 194, rfl⟩
abbrev main_v95 : Ref sig .tc := ⟨.hbm, 195, rfl⟩
abbrev main_v96 : Ref sig .tc := ⟨.hbm, 196, rfl⟩
abbrev main_cst_27 : Ref sig .tc := ⟨.hbm, 197, rfl⟩
abbrev main_call8_v0 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_v102 : Ref sig .tc := ⟨.hbm, 204, rfl⟩
abbrev main_v103 : Ref sig .tc := ⟨.hbm, 205, rfl⟩
abbrev main_v104 : Ref sig .tc := ⟨.hbm, 206, rfl⟩
abbrev main_cst_28 : Ref sig .tc := ⟨.hbm, 207, rfl⟩
abbrev main_v105 : Ref sig .tc := ⟨.hbm, 208, rfl⟩
abbrev main_v106 : Ref sig .tc := ⟨.hbm, 209, rfl⟩
abbrev main_cst_29 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_cst_30 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_cst_31 : Ref sig .tc := ⟨.hbm, 218, rfl⟩
abbrev main_v113 : Ref sig .tc := ⟨.hbm, 219, rfl⟩
abbrev main_cst_32 : Ref sig .tc := ⟨.hbm, 220, rfl⟩
abbrev main_v114 : Ref sig .tc := ⟨.hbm, 221, rfl⟩
abbrev main_v115 : Ref sig .tc := ⟨.hbm, 222, rfl⟩
abbrev main_cst_33 : Ref sig .tc := ⟨.hbm, 223, rfl⟩
abbrev main_v116 : Ref sig .tc := ⟨.hbm, 224, rfl⟩
abbrev main_cst_34 : Ref sig .tc := ⟨.hbm, 225, rfl⟩
abbrev main_v117 : Ref sig .tc := ⟨.hbm, 226, rfl⟩
abbrev main_v118 : Ref sig .tc := ⟨.hbm, 227, rfl⟩
abbrev main_cst_35 : Ref sig .tc := ⟨.hbm, 228, rfl⟩
abbrev main_call10_v0 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_cst_36 : Ref sig .tc := ⟨.hbm, 238, rfl⟩
abbrev main_v127 : Ref sig .tc := ⟨.hbm, 239, rfl⟩
abbrev main_v128 : Ref sig .tc := ⟨.hbm, 240, rfl⟩
abbrev main_cst_37 : Ref sig .tc := ⟨.hbm, 241, rfl⟩
abbrev main_v129 : Ref sig .tc := ⟨.hbm, 242, rfl⟩
abbrev main_v130 : Ref sig .tc := ⟨.hbm, 243, rfl⟩
abbrev main_v131 : Ref sig .tc := ⟨.hbm, 244, rfl⟩
abbrev main_cst_38 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_cst_39 : Ref sig .tc := ⟨.hbm, 249, rfl⟩
abbrev main_v135 : Ref sig .tc := ⟨.hbm, 250, rfl⟩
abbrev main_cst_40 : Ref sig .tc := ⟨.hbm, 251, rfl⟩
abbrev main_v136 : Ref sig .tc := ⟨.hbm, 252, rfl⟩
abbrev main_v137 : Ref sig .tc := ⟨.hbm, 253, rfl⟩
abbrev main_cst_41 : Ref sig .tc := ⟨.hbm, 254, rfl⟩
abbrev main_v138 : Ref sig .tc := ⟨.hbm, 255, rfl⟩
abbrev main_cst_42 : Ref sig .tc := ⟨.hbm, 256, rfl⟩
abbrev main_v139 : Ref sig .tc := ⟨.hbm, 257, rfl⟩
abbrev main_v140 : Ref sig .tc := ⟨.hbm, 258, rfl⟩
abbrev main_cst_43 : Ref sig .tc := ⟨.hbm, 259, rfl⟩
abbrev main_call12_v0 : Ref sig .tc := ⟨.hbm, 260, rfl⟩
abbrev main_v141 : Ref sig .tc := ⟨.hbm, 261, rfl⟩
abbrev main_v142 : Ref sig .tc := ⟨.hbm, 262, rfl⟩
abbrev main_v143 : Ref sig .tc := ⟨.hbm, 263, rfl⟩
abbrev main_v144 : Ref sig .tc := ⟨.hbm, 264, rfl⟩
abbrev main_v145 : Ref sig .tc := ⟨.hbm, 265, rfl⟩
abbrev main_v146 : Ref sig .tc := ⟨.hbm, 266, rfl⟩

abbrev nD : Nat := 1
abbrev τ : Topo := Topo.v7x

variable {F : FTy → Type} [FloatOps F]
-- ==== ScsKernel.lean ====
abbrev S32x8x128x128 : Shape := ⟨4, ![32, 8, 128, 128]⟩
abbrev S32x128 : Shape := ⟨2, ![32, 128]⟩
abbrev S32x128x2 : Shape := ⟨3, ![32, 128, 2]⟩
abbrev S4096 : Shape := ⟨1, ![4096]⟩
abbrev S128 : Shape := ⟨1, ![128]⟩
abbrev S_ : Shape := ⟨0, ![]⟩
abbrev S1 : Shape := ⟨1, ![1]⟩

abbrev nBuf : Table → Nat
  | .hbm => 10
  | _ => 0

abbrev bufTy : (tb : Table) → Fin (nBuf tb) → BufTy
  | .hbm, ⟨0, _⟩ => ⟨S32x8x128x128, .f32⟩
  | .hbm, ⟨1, _⟩ => ⟨S32x128, .i32⟩
  | .hbm, ⟨2, _⟩ => ⟨S32x128, .i32⟩
  | .hbm, ⟨3, _⟩ => ⟨S32x128x2, .i32⟩
  | .hbm, ⟨4, _⟩ => ⟨S32x128x2, .f32⟩
  | .hbm, ⟨5, _⟩ => ⟨S4096, .i32⟩
  | .hbm, ⟨6, _⟩ => ⟨S128, .i32⟩
  | .hbm, ⟨7, _⟩ => ⟨S1, .i32⟩
  | .hbm, ⟨8, _⟩ => ⟨S_, .i32⟩
  | .hbm, ⟨9, _⟩ => ⟨S_, .f32⟩
  | _, _ => ⟨S32x8x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v0_scs : Ref sig .scScalar := ⟨.hbm, 5, rfl⟩
abbrev main_v1_scs : Ref sig .scScalar := ⟨.hbm, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== FirstIndexIdeal.lean ====
abbrev S32x8x128x128 : Shape := ⟨4, ![32, 8, 128, 128]⟩
abbrev S32x128 : Shape := ⟨2, ![32, 128]⟩
abbrev S32x128x2 : Shape := ⟨3, ![32, 128, 2]⟩
abbrev S1x1 : Shape := ⟨2, ![1, 1]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S32x8x128x128, .f32⟩
  | .hbm, ⟨1, _⟩ => ⟨S32x128, .i32⟩
  | .hbm, ⟨2, _⟩ => ⟨S32x128, .i32⟩
  | .hbm, ⟨3, _⟩ => ⟨S32x128x2, .i32⟩
  | .hbm, ⟨4, _⟩ => ⟨S32x128x2, .f32⟩
  | .hbm, ⟨5, _⟩ => ⟨S1x1, .i32⟩
  | .hbm, ⟨6, _⟩ => ⟨S_, .i32⟩
  | .hbm, ⟨7, _⟩ => ⟨S_, .f32⟩
  | _, _ => ⟨S32x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Proof.Setup.lean ====
/-
  The set-up shared by the proof's modules: the program as the launch theorem sees it, the resource algebra, the names
  of the buffers, and the tile's views of them by rows.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Focal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the loss kernel's pipeline's, the transfers' counters -/

abbrev UH : Type := URounds (GSem nD τ sig) ℕ
abbrev UP : Type := URounds (GSem nD τ sig) Unit
abbrev UU : Type := UH × (UP × Counters)

/-- The model's resource algebra over the float type `F`. -/
abbrev MM (F : FTy → Type) := MT nD τ sig (HIx 1) (Elt F) ℕ UU ℕ

abbrev EH : Emb UH (MM F) := embL
def EP : Emb UP (MM F) := (Emb.inl : Emb UP (UP × Counters)).trans embR

instance EP_landsIn : (EP : Emb UP (MM F)).LandsIn (upEmb : UEmb _ (MM F)) := by unfold EP; infer_instance

/-! ## The buffers -/

/-- The table, flattened; the indices; the gathered rows; as the host addresses them on device `d`. -/
abbrev tLoc (d : Dev nD) : Loc nD τ sig := (SparseCore.T d).loc main_v0
abbrev xLoc (d : Dev nD) : Loc nD τ sig := (SparseCore.T d).loc main_arg2
abbrev oLoc (d : Dev nD) : Loc nD τ sig := (SparseCore.T d).loc main_v1

abbrev tM : Memref sig .scVector .hbm S4194304 .f32 := Memref.whole main_v0_scv
abbrev xM : Memref sig .scVector .hbm S32x128 .i32 := Memref.whole main_arg2_scv
abbrev oM : Memref sig .scVector .hbm S256x128 .f32 := Memref.whole main_v1_scv
abbrev lM : Memref sig .scVector .vmem S8x128 .i32 := Memref.whole cc0_scratch0
abbrev rM : Memref sig .scVector .vmem S8x128 .f32 := Memref.whole cc0_scratch1

/-! ## The subcore and its share of the work

Subcore `s` of SparseCore `c` is worker `2 s + c`; it serves channel `worker / 4` and the eight batch rows from
`8 (worker % 4)` on. -/

abbrev cV (L : grid0.Coords) : Fin τ.nSC := (L 0).castLE hcore0
abbrev jV (L : grid0.Coords) : Fin τ.nSub := (L 1).castLE hsub0

/-- The worker's number. -/
def wk (L : grid0.Coords) : ℕ := (L 1).val * 2 + (L 0).val
/-- The batch row of the worker's `g`-th gather. -/
def brow (L : grid0.Coords) (g : ℕ) : ℕ := wk L % 4 * 8 + g
/-- Which of the table's 256 blocks of 16384 that gather reads. -/
def tblk (L : grid0.Coords) (g : ℕ) : ℕ := brow L g * 8 + wk L / 4
/-- Which of the result's 256 rows it fills. -/
def orow (L : grid0.Coords) (g : ℕ) : ℕ := wk L * 8 + g

theorem wk_lt (L : grid0.Coords) : wk L < 32 := by
  have h0 : (L 0).val < 2 := (L 0).isLt
  have h1 : (L 1).val < 16 := (L 1).isLt
  unfold wk; omega
theorem brow_lt (L : grid0.Coords) {g : ℕ} (hg : g < 8) : brow L g < 32 := by
  have := wk_lt L; unfold brow; omega
theorem tblk_lt (L : grid0.Coords) {g : ℕ} (hg : g < 8) : tblk L g < 256 := by
  have := wk_lt L; unfold tblk brow; omega
theorem orow_lt (L : grid0.Coords) {g : ℕ} (hg : g < 8) : orow L g < 256 := by
  have := wk_lt L; unfold orow; omega

/-! ## The offsets the program computes -/

theorem off1_eq : ∀ (L : grid0.Coords) (h : Fin 2), k0_off1 L (BitVec.ofNat 32 (4 * h.val)) = ![brow L (4 * h.val), 0] := by
  decide +kernel
theorem off2_eq : ∀ (L : grid0.Coords) (g : Fin 8), k0_off2 L (BitVec.ofNat 32 g.val) = ![tblk L g.val * 16384] := by
  decide +kernel
theorem off3_eq : ∀ (L : grid0.Coords) (g : Fin 8), k0_off3 L (BitVec.ofNat 32 g.val) = ![orow L g.val, 0] := by
  decide +kernel

/-! ## The views -/

theorem inb_row (g : Fin 8) : ∀ a, (![g.val, 0] : Fin 2 → Nat) a + S1x128.size a ≤ S8x128.size a := by
  revert g; decide
theorem inb_half (h : Fin 2) : ∀ a, (![4 * h.val, 0] : Fin 2 → Nat) a + S4x128.size a ≤ S8x128.size a := by
  revert h; decide
theorem inb_cell8 (g : Fin 8) : ∀ a, (![g.val] : Fin 1 → Nat) a + S1.size a ≤ S8.size a := by
  revert g; decide
theorem inb_cell2 (h : Fin 2) : ∀ a, (![h.val] : Fin 1 → Nat) a + S1.size a ≤ S2.size a := by
  revert h; decide

/-- Four rows of the indices in HBM, and where they land. -/
abbrev xHalf (L : grid0.Coords) (h : Fin 2) : Memref sig .scVector .hbm S4x128 .i32 :=
  (xM).slice (Rect.unit (s := S32x128) (k0_off1 L (BitVec.ofNat 32 (4 * h.val))) S4x128.size (k0_off1_inb L h)) (fun _ => rfl)
abbrev lHalf (h : Fin 2) : Memref sig .scVector .vmem S4x128 .i32 :=
  (lM).slice (Rect.unit (s := S8x128) ![4 * h.val, 0] S4x128.size (inb_half h)) (fun _ => rfl)
/-- One row of the landed indices; one row of the gathered words. -/
abbrev lRow (g : Fin 8) : Memref sig .scVector .vmem S128 .i32 :=
  ((lM).slice (Rect.unit (s := S8x128) ![g.val, 0] S1x128.size (inb_row g)) (fun _ => rfl)).squeeze S128 squeezes_S1x128_S128
abbrev rRow (g : Fin 8) : Memref sig .scVector .vmem S128 .f32 :=
  ((rM).slice (Rect.unit (s := S8x128) ![g.val, 0] S1x128.size (inb_row g)) (fun _ => rfl)).squeeze S128 squeezes_S1x128_S128
/-- The block of the table that gather `g` reads, and the row of the result it goes to. -/
abbrev tBlk (L : grid0.Coords) (g : Fin 8) : Memref sig .scVector .hbm S16384 .f32 :=
  ((tM).slice (Rect.unit (s := S4194304) (k0_off2 L (BitVec.ofNat 32 g.val)) S16384.size (k0_off2_inb L g)) (fun _ => rfl)).slice
    (Rect.unit (s := S16384) ![0] S16384.size inb_S16384_S16384_0) (fun _ => rfl)
abbrev oRow (L : grid0.Coords) (g : Fin 8) : Memref sig .scVector .hbm S128 .f32 :=
  ((oM).slice (Rect.unit (s := S256x128) (k0_off3 L (BitVec.ofNat 32 g.val)) S1x128.size (k0_off3_inb L g)) (fun _ => rfl)).squeeze S128 squeezes_S1x128_S128

/-- The semaphores: of the two index copies, of the gathers, of the write-outs. -/
abbrev iSem (h : Fin 2) : DmaSems sig S_ := (cc0_scratch2.slice (Rect.unit (s := S2) ![h.val] S1.size (inb_cell2 h))).squeeze S_ squeezes_S1_S_
abbrev gSem (g : Fin 8) : DmaSems sig S_ := (cc0_scratch3.slice (Rect.unit (s := S8) ![g.val] S1.size (inb_cell8 g))).squeeze S_ squeezes_S1_S_
abbrev wSem (g : Fin 8) : DmaSems sig S_ := (cc0_scratch4.slice (Rect.unit (s := S8) ![g.val] S1.size (inb_cell8 g))).squeeze S_ squeezes_S1_S_

end Cert.Proof.Focal

end
-- ==== Proof.Loss.lean ====
/-
  The loss kernel's body, run once: from its four staged operands to the loss in its result's cell.
-/
module

public import proofs.«01_k».proof.Proof.Setup
public import proofs.«01_k».proof.Proof.Gen.KernelIdeal.Launch
public import proofs.«01_k».proof.Proof.Gen.KernelIdeal.Points

@[expose] public section

noncomputable section

namespace Cert.Proof.Focal

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A staging buffer's contents on device `d`, and it held whole. -/
abbrev Bf (F : FTy → Type) (d : Dev nD) {sp : Space} {S : Shape} {e : EltTy} (M : Memref sig .tc sp S e) : Type := Buf (Elt F) (M.view.loc (d : Thread nD τ))
abbrev pt (d : Dev nD) {sp : Space} {S : Shape} {e : EltTy} (M : Memref sig .tc sp S e) (f : Bf F d M) : sProp (MM F) :=
  M.view.loc (d : Thread nD τ) ↦{fullShare} f

set_option maxHeartbeats 4000000 in
/-- What the body leaves in its result's cell, with the run that leaves it there. -/
def lossRun (d : Dev nD) (M0 : Memref sig .tc .vmem S8x32x128 .f32) (h0 : M0.IsWhole) (M1 : Memref sig .tc .vmem S32x128 .i32) (h1 : M1.IsWhole)
    (M2 : Memref sig .tc .vmem S2x32x128 .i32) (h2 : M2.IsWhole) (M3 : Memref sig .tc .vmem S2x32x128 .f32) (h3 : M3.IsWhole)
    (M4 : Memref sig .tc .smem S1x1 .f32) (h4 : M4.IsWhole)
    (f0 : Bf F d M0) (f1 : Bf F d M1) (f2 : Bf F d M2) (f3 : Bf F d M3) :
    { W : Bf F d M4 // ∀ (f4 : Bf F d M4) (Q : PUnit → sProp (MM F)),
        iprop(pt d M0 f0 ∗ pt d M1 f1 ∗ pt d M2 f2 ∗ pt d M3 f3 ∗ pt d M4 f4
            ∗ (iprop(pt d M0 f0 ∗ pt d M1 f1 ∗ pt d M2 f2 ∗ pt d M3 f3 ∗ pt d M4 W) -∗ Q ⟨⟩))
          ⊢ wp frame (wpE (defs₀ (F := F)) Variants.none d none) Set.univ (cc1__loss_body M0 h0 M1 h1 M2 h2 M3 h3 M4 h4) Q } := by
  refine ⟨?_, fun f4 Q => ?run⟩
  case run =>
    iintro ⟨H0, H1, H2, H3, H4, Hk⟩
    sl_exec!
    sl_step
    iapply Hk
    isplitl [H0]; · iexact H0
    isplitl [H1]; · iexact H1
    isplitl [H2]; · iexact H2
    isplitl [H3]; · iexact H3
    iexact H4

end Cert.Proof.Focal

end
-- ==== Proof.Region.lean ====
/-
  The loss kernel's call as a region of the host program: entered with every host buffer at a valuation `V`, left
  with its result's cell at the body's run and every other buffer as it was.
-/
module

public import proofs.«01_k».proof.Proof.Loss
public import Idealize.ShloMosaic.Lib.Pipeline.Frame
public import Idealize.ShloMosaic.Lib.Pipeline.RegionsLoop

@[expose] public section

noncomputable section

namespace Cert.Proof.Focal

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

/-- One valuation of the host's buffers per device. -/
abbrev Vals (F : FTy → Type) : Type := Dev nD → Valuation τ sig (Elt F)

variable (V : Vals F)

/-- What each operand's staging buffer holds when the body runs: its array, block read. -/
abbrev blk0 (d : Dev nD) : (cfg1.win 0).block.Idx → Elt F (cfg1.win 0).elt := ((cfg1.win 0).blk t1_0).view.read (Elt F) (V d main_v2)
abbrev blk1 (d : Dev nD) : (cfg1.win 1).block.Idx → Elt F (cfg1.win 1).elt := ((cfg1.win 1).blk t1_0).view.read (Elt F) (V d main_arg1)
abbrev blk2 (d : Dev nD) : (cfg1.win 2).block.Idx → Elt F (cfg1.win 2).elt := ((cfg1.win 2).blk t1_0).view.read (Elt F) (V d main_v3)
abbrev blk3 (d : Dev nD) : (cfg1.win 3).block.Idx → Elt F (cfg1.win 3).elt := ((cfg1.win 3).blk t1_0).view.read (Elt F) (V d main_v4)

/-- The run over those. -/
abbrev lossAt (d : Dev nD) := lossRun (F := F) d (st1_0 t1_0) (hstage1_0 0) (st1_1 t1_0) (hstage1_1 0) (st1_2 t1_0) (hstage1_2 0)
  (st1_3 t1_0) (hstage1_3 0) (st1_4 t1_0) (hstage1_4 0) (blk0 V d) (blk1 V d) (blk2 V d) (blk3 V d)

/-- The pairs the thread has already waited for when the region starts: none above the first call's levels. -/
abbrev seen (d : Dev nD) : Set (SemLoc sig × HIx 1) := {p | (K (F := F)).lev (SparseCore.T d, p.1) p.2 ≤ 8 * (inferInstance : SparseCore.Cfg.Blocks 1 1).fst 1}

/-- The region's proof data: arrays at `V`; the operands' buffers untouched by the body, the result's at the run. -/
def dat (d : Dev nD) : Dat τ (Elt F) (HIx 1) ℕ UU ℕ cfg1 d where
  A w := V d (Pipeline.arrRef spec1 w)
  after w _ := match w with
    | ⟨0, _⟩ => blk0 V d
    | ⟨1, _⟩ => blk1 V d
    | ⟨2, _⟩ => blk2 V d
    | ⟨3, _⟩ => blk3 V d
    | ⟨4, _⟩ => (lossAt V d).1
  Φ _ := Pipeline.scopedRest spec1 d
  q _ := fullShare
  owed _ := 0
  recorded _ := seen (F := F) d

abbrev adm : (p : Fin 1) → (pcfgs (F := F) p).Adm := fun p => (cfgs p).toPCfg_adm

def pdats : (p : Fin 1) → (d : Dev nD) → Dat τ (Elt F) (HIx 1) ℕ UU ℕ (Pipeline.pin (pcfgs (F := F)) adm p) d
  | ⟨0, _⟩ => fun d => dat V d

theorem before_0 (d : Dev nD) (x) : (dat V d).before 0 t1_0 x = blk0 V d := by unfold Dat.before; rw [if_pos (by decide)]; rfl
theorem before_1 (d : Dev nD) (x) : (dat V d).before 1 t1_0 x = blk1 V d := by unfold Dat.before; rw [if_pos (by decide)]; rfl
theorem before_2 (d : Dev nD) (x) : (dat V d).before 2 t1_0 x = blk2 V d := by unfold Dat.before; rw [if_pos (by decide)]; rfl
theorem before_3 (d : Dev nD) (x) : (dat V d).before 3 t1_0 x = blk3 V d := by unfold Dat.before; rw [if_pos (by decide)]; rfl

theorem body_ok (d : Dev nD) : BodyObligation (dat V d) (defs₀ (F := F)) 𝒱₀ (none : HIx 1) Set.univ := fun t => by
  obtain rfl := fin_N1 t
  rw [bigSep_W1, bigSep_W1]
  simp only [owns_whole_eq]
  rw [show (dat V d).Φ t1_0.castSucc = Pipeline.scopedRest spec1 d from rfl, show (dat V d).Φ t1_0.succ = Pipeline.scopedRest spec1 d from rfl,
    show (dat V d).owesAt none t1_0.succ = (dat V d).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before_0] at hf0
  rw [before_1] at hf1
  rw [before_2] at hf2
  rw [before_3] at hf3
  subst hf0 hf1 hf2 hf3
  iapply ((lossAt V d).2 f4 _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  iexists _; isplitr; swap; (· iexact H4); ipureintro; dsimp only [dat]

/-- The result's array after the region. -/
def lossOut (d : Dev nD) : Buf (Elt F) ((SparseCore.T d : Thread nD τ).loc main_v5) := (dat V d).arrAt 4 cfg1.N

/-- The valuation the region leaves. -/
def Vloss : Vals F := fun d => Function.update (V d) (main_v5 : DevRef τ sig) (lossOut V d)

theorem Vloss_out (d : Dev nD) : Vloss V d main_v5 = lossOut V d := Function.update_self ..
theorem Vloss_ne (d : Dev nD) {b : Ref sig .tc} (h : b ≠ main_v5) : Vloss V d b = V d b :=
  Function.update_of_ne (fun e => h (Proc.devRef_injective _ e)) ..

/-- What the thread owes around the region: nothing, and its waits so far below the first call's end. -/
abbrev idle (F : FTy → Type) (d : Dev nD) : sProp (MM F) :=
  iprop(∃ W, ⌜(K (F := F)).WBelow (SparseCore.T d) W (8 * (inferInstance : SparseCore.Cfg.Blocks 1 1).fst 1)⌝ ∗ owes (SparseCore.T d) (0 : CellTallies nD τ sig (HIx 1)) W)

abbrev LP : GSem nD τ sig → Finset (HIx 1) := (K (F := F)).L
abbrev lvP : GSem nD τ sig → HIx 1 → ℕ := (K (F := F)).lev

set_option backward.isDefEq.respectTransparency.types false in
def reg : Pipeline.RegionSeg (pcfgs (F := F)) adm (pdats V) (none : HIx 1) defs₀ 𝒱₀ (LP (F := F)) (lvP (F := F)) 0 where
  win := (launch1).win.to₀
  block_pos := (launch1).block_pos
  stage_whole := (launch1).stage_whole
  K := PEmpty
  osem k := k.elim
  ho := Pipeline.OwnSemFacts.none _
  hbody c := (body_ok V c).loose
  hwaits := Pipeline.hwaits_of_owed_zero _ _ _ _ _ _ 0 fun _ _ => rfl
  pre c := iprop(unscopedBufs c (fun b => V c b) ∗ idle F c)
  post c := iprop(unscopedBufs c (fun b => Vloss V c b) ∗ idle F c)
  X _ := BI.emp
  Y _ := BI.emp
  Z c := Pipeline.unscopedRest (Ix := HIx 1) (Name := ℕ) (U := UU) (Lvl := ℕ) spec1 c (fun b => V c b)
  hentry c := by
    rw [Pipeline.ownSems0_none]
    have hsplit := Pipeline.arrays_of_unscopedBufs (p := 0) (pcfgs (F := F)) adm (pdats V) (launch1).win (launch1).arr_whole c
      ((pdats V 0 c).share_full fun _ => rfl) (fun b => V c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest spec1 c from rfl]
    iintro ⟨-, -, Hr⟩; iexact Hr
  hout c := by
    rw [Pipeline.ownSems0_none, show (pdats V 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (fun b => V c b) (fun b => Vloss V c b) ((pdats V 0 c).arrAt · cfg1.N)
      (fun w => by
        fin_cases w
        · exact ((pdats V 0 c).arrAt_in 0 rfl _).trans (Vloss_ne V c (b := main_v2) (by decide)).symm
        · exact ((pdats V 0 c).arrAt_in 1 rfl _).trans (Vloss_ne V c (b := main_arg1) (by decide)).symm
        · exact ((pdats V 0 c).arrAt_in 2 rfl _).trans (Vloss_ne V c (b := main_v3) (by decide)).symm
        · exact ((pdats V 0 c).arrAt_in 3 rfl _).trans (Vloss_ne V c (b := main_v4) (by decide)).symm
        · exact (Vloss_out V c).symm)
      (fun b hb => Vloss_ne V c fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; · iexact HO
    ipureintro
    intro p hp
    rcases hW hp with h | ⟨w, s, rfl⟩
    · exact h
    · exact Nat.zero_le _

end Cert.Proof.Focal

end
-- ==== Proof.Rows.lean ====
/-
  The geometry of the gather: which elements each view covers, and what each copy leaves in them, as functions of the
  table `ft` and the indices `fx`.
-/
module

public import proofs.«01_k».proof.Proof.Setup
public import Idealize.ShloMosaic.Lib.ValueIdxCore
public import Idealize.ShloMosaic.Lib.Pipeline.Value

@[expose] public section

noncomputable section

namespace Cert.Proof.Focal

open Cert.KernelIdeal Cert.KernelIdeal.Gen
open Idealize.ShloMosaic Idealize.ShloMosaic.ValueIdx
open Idealize.SL.Sem

variable {F : FTy → Type}

/-! ## The sets -/

/-- Row `g`, rows `4 h` to `4 h + 3`, of a tile's two scratch arrays. -/
def sRow (g : ℕ) : Finset S8x128.Idx := Finset.univ.filter fun i => (i 0).val = g
def sHalf (h : ℕ) : Finset S8x128.Idx := Finset.univ.filter fun i => (i 0).val / 4 = h
/-- Block `n` of the table, of 16384 entries. -/
def tSet (n : ℕ) : Finset S4194304.Idx := Finset.univ.filter fun i => (i 0).val / 16384 = n
/-- Row `n` of the result. -/
def oSet (n : ℕ) : Finset S256x128.Idx := Finset.univ.filter fun i => (i 0).val = n

theorem mem_sRow {g : ℕ} {i : S8x128.Idx} : i ∈ sRow g ↔ (i 0).val = g := by unfold sRow; rw [Finset.mem_filter]; exact and_iff_right (Finset.mem_univ _)
theorem mem_sHalf {h : ℕ} {i : S8x128.Idx} : i ∈ sHalf h ↔ (i 0).val / 4 = h := by unfold sHalf; rw [Finset.mem_filter]; exact and_iff_right (Finset.mem_univ _)
theorem mem_tSet {n : ℕ} {i : S4194304.Idx} : i ∈ tSet n ↔ (i 0).val / 16384 = n := by unfold tSet; rw [Finset.mem_filter]; exact and_iff_right (Finset.mem_univ _)
theorem mem_oSet {n : ℕ} {i : S256x128.Idx} : i ∈ oSet n ↔ (i 0).val = n := by unfold oSet; rw [Finset.mem_filter]; exact and_iff_right (Finset.mem_univ _)

/-! ## Where each view's elements lie -/

/-- A row squeezed to a vector: its element `x` is the row's `x`-th. -/
theorem unsqueeze (x : S128.Idx) (h : S128.numel = S1x128.numel) : Shape.reshapeEquiv h x = (fun | 0 => ⟨0, Nat.one_pos⟩ | 1 => x 0 : S1x128.Idx) := by
  refine (Shape.reshapeEquiv_cons_one (d := ![128]) h x).trans ?_
  funext a
  match a with
  | 0 => rfl
  | 1 => rfl

theorem lHalf_emb (h : Fin 2) (x : S4x128.Idx) : (((lHalf h).view.emb x 0 : Fin 8) : ℕ) = 4 * h.val + (x 0).val ∧ (((lHalf h).view.emb x 1 : Fin 128) : ℕ) = (x 1).val := by
  constructor
  · show 4 * h.val + 1 * (x 0).val = _; omega
  · show 0 + 1 * (x 1).val = _; omega
theorem xHalf_emb (L : grid0.Coords) (h : Fin 2) (x : S4x128.Idx) :
    (((xHalf L h).view.emb x 0 : Fin 32) : ℕ) = brow L (4 * h.val) + (x 0).val ∧ (((xHalf L h).view.emb x 1 : Fin 128) : ℕ) = (x 1).val := by
  have e := off1_eq L h
  constructor
  · show k0_off1 L (BitVec.ofNat 32 (4 * h.val)) 0 + 1 * (x 0).val = _
    rw [e]; show brow L (4 * h.val) + _ = _; omega
  · show k0_off1 L (BitVec.ofNat 32 (4 * h.val)) 1 + 1 * (x 1).val = _
    rw [e]; show 0 + _ = _; omega
theorem lRow_emb (g : Fin 8) (x : S128.Idx) : (((lRow g).view.emb x 0 : Fin 8) : ℕ) = g.val ∧ (((lRow g).view.emb x 1 : Fin 128) : ℕ) = (x 0).val := by
  have e : (lRow g).view.emb x = (Rect.unit (s := S8x128) ![g.val, 0] S1x128.size (inb_row g)).emb (Shape.reshapeEquiv squeezes_S1x128_S128.numel_eq x) := rfl
  rw [e, unsqueeze]
  constructor
  · show g.val + 1 * 0 = _; omega
  · show 0 + 1 * (x 0).val = _; omega
theorem rRow_emb (g : Fin 8) (x : S128.Idx) : (((rRow g).view.emb x 0 : Fin 8) : ℕ) = g.val ∧ (((rRow g).view.emb x 1 : Fin 128) : ℕ) = (x 0).val := by
  have e : (rRow g).view.emb x = (Rect.unit (s := S8x128) ![g.val, 0] S1x128.size (inb_row g)).emb (Shape.reshapeEquiv squeezes_S1x128_S128.numel_eq x) := rfl
  rw [e, unsqueeze]
  constructor
  · show g.val + 1 * 0 = _; omega
  · show 0 + 1 * (x 0).val = _; omega
theorem tBlk_emb (L : grid0.Coords) (g : Fin 8) (x : S16384.Idx) : (((tBlk L g).view.emb x 0 : Fin 4194304) : ℕ) = tblk L g.val * 16384 + (x 0).val := by
  show k0_off2 L (BitVec.ofNat 32 g.val) 0 + 1 * (0 + 1 * (x 0).val) = _
  rw [off2_eq L g]; show tblk L g.val * 16384 + _ = _; omega
theorem oRow_emb (L : grid0.Coords) (g : Fin 8) (x : S128.Idx) :
    (((oRow L g).view.emb x 0 : Fin 256) : ℕ) = orow L g.val ∧ (((oRow L g).view.emb x 1 : Fin 128) : ℕ) = (x 0).val := by
  have e : (oRow L g).view.emb x = (Rect.unit (s := S256x128) (k0_off3 L (BitVec.ofNat 32 g.val)) S1x128.size (k0_off3_inb L g)).emb
    (Shape.reshapeEquiv squeezes_S1x128_S128.numel_eq x) := rfl
  have e3 := off3_eq L g
  rw [e, unsqueeze]
  constructor
  · show k0_off3 L (BitVec.ofNat 32 g.val) 0 + 1 * 0 = _; rw [e3]; rfl
  · show k0_off3 L (BitVec.ofNat 32 g.val) 1 + 1 * (x 0).val = _; rw [e3]; show 0 + _ = _; omega

/-! ## The views' elements as those sets -/

/-- A view's elements are the set that a predicate names, when its every element meets the predicate and everything
    that meets it is an element. -/
theorem view_set_eq {κ : Kind} {sp : Space} {s : Shape} {e : EltTy} (v : View sig κ sp s e) (A : Finset v.ty.Idx)
    (h₁ : ∀ x, v.emb x ∈ A) (h₂ : ∀ i ∈ A, ∃ x, v.emb x = i) : v.set = A := by
  ext i
  constructor
  · intro hi; obtain ⟨x, rfl⟩ := View.exists_emb_of_mem_set v hi; exact h₁ x
  · intro hi; obtain ⟨x, rfl⟩ := h₂ i hi; exact Finset.mem_map.mpr ⟨x, Finset.mem_univ _, rfl⟩

/-- Two indices of a rank-two array with the same coordinates. -/
theorem idx2_ext {a b : ℕ} {i j : (⟨2, ![a, b]⟩ : Shape).Idx} (h0 : (i 0).val = (j 0).val) (h1 : (i 1).val = (j 1).val) : i = j := by
  funext k
  match k with
  | 0 => exact Fin.ext h0
  | 1 => exact Fin.ext h1
theorem idx1_ext {a : ℕ} {i j : (⟨1, ![a]⟩ : Shape).Idx} (h0 : (i 0).val = (j 0).val) : i = j := by
  funext k
  match k with
  | 0 => exact Fin.ext h0

/-- The index of a rank-one array. -/
abbrev at1 {a : ℕ} (n : Fin a) : (⟨1, ![a]⟩ : Shape).Idx := fun | 0 => n
/-- The index of a rank-two array. -/
abbrev at2 {a b : ℕ} (n : Fin a) (k : Fin b) : (⟨2, ![a, b]⟩ : Shape).Idx := fun | 0 => n | 1 => k

theorem set_lHalf (h : Fin 2) : (lHalf h).view.set = sHalf h.val := by
  refine view_set_eq _ _ (fun x => mem_sHalf.mpr ?_) fun i hi => ?_
  · have := (lHalf_emb h x).1
    have hx : (x 0).val < 4 := (x 0).isLt
    change ((lHalf h).view.emb x 0 : Fin 8).val / 4 = _; omega
  · have hi' : (i 0 : Fin 8).val / 4 = h.val := mem_sHalf.mp hi
    refine ⟨at2 ⟨(i 0 : Fin 8).val % 4, Nat.mod_lt _ (by decide)⟩ (i 1 : Fin 128), ?_⟩
    have e := lHalf_emb h (at2 ⟨(i 0 : Fin 8).val % 4, Nat.mod_lt _ (by decide)⟩ (i 1 : Fin 128))
    exact idx2_ext (a := 8) (b := 128) (e.1.trans (by show 4 * h.val + (i 0 : Fin 8).val % 4 = _; omega)) e.2
theorem set_lRow (g : Fin 8) : (lRow g).view.set = sRow g.val := by
  refine view_set_eq _ _ (fun x => mem_sRow.mpr (lRow_emb g x).1) fun i hi => ⟨at1 (i 1 : Fin 128), ?_⟩
  exact idx2_ext (a := 8) (b := 128) ((lRow_emb g _).1.trans (mem_sRow.mp hi).symm) (lRow_emb g (at1 (i 1 : Fin 128))).2
theorem set_rRow (g : Fin 8) : (rRow g).view.set = sRow g.val := by
  refine view_set_eq _ _ (fun x => mem_sRow.mpr (rRow_emb g x).1) fun i hi => ⟨at1 (i 1 : Fin 128), ?_⟩
  exact idx2_ext (a := 8) (b := 128) ((rRow_emb g _).1.trans (mem_sRow.mp hi).symm) (rRow_emb g (at1 (i 1 : Fin 128))).2
theorem set_oRow (L : grid0.Coords) (g : Fin 8) : (oRow L g).view.set = oSet (orow L g.val) := by
  refine view_set_eq _ _ (fun x => mem_oSet.mpr (oRow_emb L g x).1) fun i hi => ⟨at1 (i 1 : Fin 128), ?_⟩
  exact idx2_ext (a := 256) (b := 128) ((oRow_emb L g _).1.trans (mem_oSet.mp hi).symm) (oRow_emb L g (at1 (i 1 : Fin 128))).2
theorem set_tBlk (L : grid0.Coords) (g : Fin 8) : (tBlk L g).view.set = tSet (tblk L g.val) := by
  refine view_set_eq _ _ (fun x => mem_tSet.mpr ?_) fun i hi => ?_
  · have := tBlk_emb L g x
    have hx : (x 0).val < 16384 := (x 0).isLt
    change ((tBlk L g).view.emb x 0 : Fin 4194304).val / 16384 = _; omega
  · have hi' : (i 0 : Fin 4194304).val / 16384 = tblk L g.val := mem_tSet.mp hi
    refine ⟨at1 ⟨(i 0 : Fin 4194304).val % 16384, Nat.mod_lt _ (by decide)⟩, ?_⟩
    have e := tBlk_emb L g (at1 ⟨(i 0 : Fin 4194304).val % 16384, Nat.mod_lt _ (by decide)⟩)
    exact idx1_ext (a := 4194304) (e.trans (by show tblk L g.val * 16384 + (i 0 : Fin 4194304).val % 16384 = _; omega))

/-! ## The contents -/

/-- The tile's eight rows of the indices. -/
def lst (fx : S32x128.Idx → Elt F .i32) (L : grid0.Coords) : S8x128.Idx → Elt F .i32 :=
  fun i => fx (at2 ⟨brow L (i 0).val, brow_lt L (i 0).isLt⟩ (i 1))

/-- Entry `n` of block `b` of the table. -/
def tabAt (ft : S4194304.Idx → Elt F .f32) (b : ℕ) (n : ℕ) : Elt F .f32 :=
  ft (at1 ⟨(b * 16384 + n) % 4194304, Nat.mod_lt _ (by decide)⟩)

/-- The words the tile gathers, eight rows. -/
def res (ft : S4194304.Idx → Elt F .f32) (fx : S32x128.Idx → Elt F .i32) (L : grid0.Coords) : S8x128.Idx → Elt F .f32 :=
  fun i => tabAt ft (tblk L (i 0).val) (BitVec.toNat (lst fx L i))

/-- The whole result: row `32 ch + b` is channel `ch` of batch row `b` at the places row `b` of the indices names. -/
def OUT (ft : S4194304.Idx → Elt F .f32) (fx : S32x128.Idx → Elt F .i32) : S256x128.Idx → Elt F .f32 :=
  fun i => tabAt ft ((i 0).val % 32 * 8 + (i 0).val / 32) (BitVec.toNat (fx (at2 ⟨(i 0).val % 32, Nat.mod_lt _ (by decide)⟩ (i 1))))

/-- What the copy of four rows of the indices leaves. -/
theorem half_write (fx : S32x128.Idx → Elt F .i32) (L : grid0.Coords) (h : Fin 2) (f₀ : S8x128.Idx → Elt F .i32) :
    ∀ j ∈ (lHalf h).view.set, (lHalf h).view.write (Elt F) f₀ ((xHalf L h).view.read (Elt F) fx) Finset.univ j = lst fx L j := by
  intro j hj
  obtain ⟨x, rfl⟩ := View.exists_emb_of_mem_set _ hj
  rw [View.write_emb_of_mem _ _ (Finset.mem_univ _), View.read_apply]
  refine (cast_eq _ _).trans ((cast_eq _ _).trans ?_)
  refine congrArg fx (idx2_ext (a := 32) (b := 128) ((xHalf_emb L h x).1.trans ?_) ((xHalf_emb L h x).2.trans (lHalf_emb h x).2.symm))
  show _ = brow L ((lHalf h).view.emb x 0 : Fin 8).val
  rw [(lHalf_emb h x).1]; unfold brow; omega

/-- The list a gather reads is its row of the tile's indices. -/
theorem lRow_read (f : S8x128.Idx → Elt F .i32) (g : Fin 8) (x : S128.Idx) : (lRow g).view.read (Elt F) f x = f (at2 g (x 0)) := by
  rw [View.read_apply]
  refine (cast_eq _ _).trans (congrArg f (idx2_ext (a := 8) (b := 128) (lRow_emb g x).1 (lRow_emb g x).2))

/-- The indices in range: every list a gather reads names rows of its block. -/
theorem lst_inb {fx : S32x128.Idx → Elt F .i32} (hx : ∀ i, (BitVec.toNat (fx i)) < 16384) (L : grid0.Coords) (g : Fin 8) :
    ∀ x, ((lRow g).view.read (Elt F) (lst fx L) x).toNat < S16384.size gathers_S16384_S128.axis := by
  intro x; rw [lRow_read]; exact hx _

/-- What gather `g` leaves in its row. -/
theorem row_gather (ft : S4194304.Idx → Elt F .f32) (fx : S32x128.Idx → Elt F .i32) (L : grid0.Coords) (g : Fin 8)
    (f₀ : S8x128.Idx → Elt F .f32) (hn : S128.numel = S128.size gathers_S16384_S128.axis')
    (hin : ∀ x, ((lRow g).view.read (Elt F) (lst fx L) x).toNat < S16384.size gathers_S16384_S128.axis) :
    ∀ j ∈ (rRow g).view.set, (rRow g).view.write (Elt F) f₀ (SparseCore.gatherPayload gathers_S16384_S128 ((tBlk L g).view.read (Elt F) ft)
        (SparseCore.rows ((lRow g).view.read (Elt F) (lst fx L)) hn hin)) Finset.univ j = res ft fx L j := by
  intro j hj
  obtain ⟨x, rfl⟩ := View.exists_emb_of_mem_set _ hj
  rw [View.write_emb_of_mem _ _ (Finset.mem_univ _)]
  refine (cast_eq _ _).trans ?_
  unfold SparseCore.gatherPayload
  rw [View.read_apply]
  refine (cast_eq _ _).trans (congrArg ft (idx1_ext (a := 4194304) ((tBlk_emb L g _).trans ?_)))
  have hg := rRow_emb g x
  -- the source row is the list's word
  have e : ((gathers_S16384_S128.idx (SparseCore.rows ((lRow g).view.read (Elt F) (lst fx L)) hn hin) x 0 : Fin 16384) : ℕ)
      = BitVec.toNat (lst fx L (at2 g (x 0))) := by
    have e1 := congrArg Fin.val (Shape.Gathers.idx_axis gathers_S16384_S128 (SparseCore.rows ((lRow g).view.read (Elt F) (lst fx L)) hn hin) x)
    refine Eq.trans (b := _) ?_ (e1.trans ?_)
    · rfl
    · show BitVec.toNat ((lRow g).view.read (Elt F) (lst fx L) (S128.rowMajor.symm _)) = _
      rw [lRow_read]
      congr 3
      have : S128.rowMajor.symm (Fin.cast hn.symm (x gathers_S16384_S128.axis')) = x := by
        rw [Equiv.symm_apply_eq]
        exact Fin.ext (Shape.rowMajor_val_one (d := ![128]) x).symm
      rw [this]
  have el : lst fx L (at2 g (x 0)) = lst fx L ((rRow g).view.emb x) :=
    congrArg (lst fx L) (idx2_ext (a := 8) (b := 128) hg.1.symm hg.2.symm)
  have hb := tblk_lt L g.isLt
  have hlt : BitVec.toNat (lst fx L (at2 g (x 0))) < 16384 := by
    have := hin x; rw [lRow_read] at this; exact this
  rw [e, el] at *
  show _ = (tblk L ((rRow g).view.emb x 0 : Fin 8).val * 16384 + BitVec.toNat (lst fx L ((rRow g).view.emb x))) % 4194304
  rw [hg.1, Nat.mod_eq_of_lt (by rw [el] at hlt; omega)]

/-- What a write-out leaves in its row of the result. -/
theorem out_write (ft : S4194304.Idx → Elt F .f32) (fx : S32x128.Idx → Elt F .i32) (L : grid0.Coords) (g : Fin 8) (f₀ : S256x128.Idx → Elt F .f32) :
    ∀ j ∈ (oRow L g).view.set, (oRow L g).view.write (Elt F) f₀ ((rRow g).view.read (Elt F) (res ft fx L)) Finset.univ j = OUT ft fx j := by
  intro j hj
  obtain ⟨x, rfl⟩ := View.exists_emb_of_mem_set _ hj
  rw [View.write_emb_of_mem _ _ (Finset.mem_univ _), View.read_apply]
  refine (cast_eq _ _).trans ((cast_eq _ _).trans ?_)
  have hr := rRow_emb g x
  have ho := oRow_emb L g x
  have hw := wk_lt L
  have hg := g.isLt
  unfold res OUT lst
  congr 1
  · show tblk L ((rRow g).view.emb x 0 : Fin 8).val = ((oRow L g).view.emb x 0 : Fin 256).val % 32 * 8 + ((oRow L g).view.emb x 0 : Fin 256).val / 32
    rw [hr.1, ho.1]; unfold tblk brow orow; omega
  · refine congrArg (fun i => BitVec.toNat (fx i)) (idx2_ext (a := 32) (b := 128) ?_ (hr.2.trans ho.2.symm))
    show brow L ((rRow g).view.emb x 0 : Fin 8).val = ((oRow L g).view.emb x 0 : Fin 256).val % 32
    rw [hr.1, ho.1]; unfold brow orow; omega

end Cert.Proof.Focal

end
-- ==== Proof.Body.lean ====
/-
  The tile's program as three short loops — fetch the indices by halves and issue the gathers, turn each landed row
  around, drain the write-outs — and the rule that runs such a loop.
-/
module

public import proofs.«01_k».proof.Proof.Rows

@[expose] public section

noncomputable section

namespace Cert.Proof.Focal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- A tile's programs. -/
abbrev TileProg (F : FTy → Type) (L : grid0.Coords) := Prog (TpuEff nD τ sig (Elt F) Λ₀ (.scVector (cV L) (jV L))) PUnit

/-- The programs `f 0`, …, `f (n - 1)`, one after another. -/
def seqF {L : grid0.Coords} : (n : ℕ) → (Fin n → TileProg F L) → TileProg F L
  | 0, _ => pure ⟨⟩
  | n + 1, f => f 0 >>= fun _ => seqF n fun i => f i.succ

/-- Row `g` of half `h`. -/
abbrev rowOf (h : Fin 2) (g : Fin 4) : Fin 8 := ⟨4 * h.val + g.val, by omega⟩

/-- Start the fetch of half `h` of the tile's indices; wait for it. -/
def copyIn (L : grid0.Coords) (h : Fin 2) : TileProg F L :=
  Prog.lift (.enqueueDma (xHalf L h) (.here (lHalf h)) (.dma (iSem h).sem) (View.wordExact_bits rfl) (View.wordExact_bits rfl) ⟨Or.inl rfl, trivial⟩)
def waitIn (L : grid0.Coords) (h : Fin 2) : TileProg F L :=
  Prog.lift (.waitDma2 (iSem h).sem (xHalf L h) (lHalf h) (View.wordExact_bits rfl) (View.wordExact_bits rfl))
/-- Start gather `g`; wait for it. -/
def issue (L : grid0.Coords) (g : Fin 8) : TileProg F L :=
  SparseCore.enqueueIndirectGather rfl (tBlk L g) (rRow g) gathers_S16384_S128 (lRow g) rfl (gSem g).sem (View.wordExact_bits rfl) rfl (Or.inl rfl)
def landed (L : grid0.Coords) (g : Fin 8) : TileProg F L :=
  SparseCore.waitIndirectGather (gSem g).sem (tBlk L g) (rRow g) (View.wordExact_bits rfl) ((View.wordExact_bits rfl).reshape _ _)
/-- Start the write-out of row `g`; wait for it. -/
def writeOut (L : grid0.Coords) (g : Fin 8) : TileProg F L :=
  Prog.lift (.enqueueDma (rRow g) (.here (oRow L g)) (.dma (wSem g).sem) ((View.wordExact_bits rfl).reshape _ _) ((View.wordExact_bits rfl).reshape _ _) ⟨Or.inl rfl, trivial⟩)
def drain (L : grid0.Coords) (g : Fin 8) : TileProg F L :=
  Prog.lift (.waitDma2 (wSem g).sem (rRow g) (oRow L g) ((View.wordExact_bits rfl).reshape _ _) ((View.wordExact_bits rfl).reshape _ _))

/-- The tile's program. -/
def body (L : grid0.Coords) : TileProg F L :=
  seqF 2 (copyIn L) >>= fun _ =>
  seqF 2 (fun h => waitIn L h >>= fun _ => seqF 4 fun g => issue L (rowOf h g)) >>= fun _ =>
  seqF 8 (fun g => landed L g >>= fun _ => writeOut L g) >>= fun _ =>
  seqF 8 (drain L) >>= fun _ => pure ⟨⟩

/-- The tile's program as the launch has it. -/
abbrev prog (L : grid0.Coords) : TileProg F L :=
  cc0__gather_body L tM (Memref.isWhole_whole _) xM (Memref.isWhole_whole _) oM (Memref.isWhole_whole _)
    lM (Memref.isWhole_whole _) rM (Memref.isWhole_whole _) cc0_scratch2 cc0_scratch3 cc0_scratch4

set_option maxRecDepth 65536 in
set_option maxHeartbeats 4000000 in
/-- The printed program is those loops. -/
theorem prog_eq (L : grid0.Coords) : prog (F := F) L = body L := rfl

end Cert.Proof.Focal

end
-- ==== Proof.Steps.lean ====
/-
  One step of each of the tile's loops: what it takes, what it leaves, with the contents.
-/
module

public import proofs.«01_k».proof.Proof.Body

@[expose] public section

noncomputable section

namespace Cert.Proof.Focal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Steps

variable (d : Dev nD) (L : grid0.Coords)

/-- The tile's thread, its two scratch arrays, its semaphores' cells. -/
abbrev thr : Thread nD τ := V d (cV L) (jV L)
abbrev lLoc : Loc nD τ sig := (thr d L).loc cc0_scratch0
abbrev rLoc : Loc nD τ sig := (thr d L).loc cc0_scratch1

variable (ft : S4194304.Idx → Elt F .f32) (fx : S32x128.Idx → Elt F .i32) (qx : Fin 2 → PosShare TreeShare)
variable (O : CellTallies nD τ sig (HIx 1)) (W : Waits sig (HIx 1))

/-- What the tile's thread carries along: the levels, and what it owes, its waits so far being of its own copies. -/
def Inv : sProp (MM F) :=
  iprop(levAts (K (F := F)).L (K (F := F)).lev ∗ ∃ W', ⌜∀ p ∈ W', p ∈ W ∨ p.2 = none⌝ ∗ owes (thr d L) O W')

/-! The indices' half `h`: before, on the way, landed. -/
def X0 (h : Fin 2) : sProp (MM F) :=
  iprop((xLoc d ↦[(xHalf L h).view.set]{qx h} fx) ∗ (∃ f, lLoc d L ↦[sHalf h.val]{fullShare} f) ∗ semVal (thr d L, .dma (iSem h).sem) 0)
def X1 (h : Fin 2) : sProp (MM F) :=
  Transfers.Flight countersEmb (thr d L) (.dma (iSem h).sem) (default : HIx 1) ((lHalf h).view.dmaCredit)
    iprop((lLoc d L ↦[sHalf h.val]{fullShare} lst fx L) ∗ (xLoc d ↦[(xHalf L h).view.set]{qx h} fx))
def X2 (h : Fin 2) : sProp (MM F) :=
  iprop((xLoc d ↦[(xHalf L h).view.set]{qx h} fx) ∗ (lLoc d L ↦[sHalf h.val]{fullShare} lst fx L) ∗ semVal (thr d L, .dma (iSem h).sem) 0)

/-! Row `g`: before its gather, with the gather under way, with the write-out under way, written. -/
def G0 (g : Fin 8) : sProp (MM F) :=
  iprop((tLoc d ↦[tSet (tblk L g.val)]{fullShare} ft) ∗ (∃ f, rLoc d L ↦[sRow g.val]{fullShare} f) ∗ semVal (thr d L, .dma (gSem g).sem) 0)
def G1 (g : Fin 8) : sProp (MM F) :=
  Transfers.Flight countersEmb (thr d L) (.dma (gSem g).sem) (default : HIx 1) ((rRow g).view.dmaCredit)
    iprop((rLoc d L ↦[sRow g.val]{fullShare} res ft fx L) ∗ (tLoc d ↦[tSet (tblk L g.val)]{fullShare} ft) ∗ (lLoc d L ↦[sRow g.val]{fullShare} lst fx L))
def G2 (g : Fin 8) : sProp (MM F) :=
  iprop((tLoc d ↦[tSet (tblk L g.val)]{fullShare} ft) ∗ (lLoc d L ↦[sRow g.val]{fullShare} lst fx L) ∗ semVal (thr d L, .dma (gSem g).sem) 0)
def O0 (g : Fin 8) : sProp (MM F) :=
  iprop((∃ f, oLoc d ↦[oSet (orow L g.val)]{fullShare} f) ∗ semVal (thr d L, .dma (wSem g).sem) 0)
def O1 (g : Fin 8) : sProp (MM F) :=
  Transfers.Flight countersEmb (thr d L) (.dma (wSem g).sem) (default : HIx 1) ((oRow L g).view.dmaCredit)
    iprop((oLoc d ↦[oSet (orow L g.val)]{fullShare} OUT ft fx) ∗ (rLoc d L ↦[sRow g.val]{fullShare} res ft fx L))
def O2 (g : Fin 8) : sProp (MM F) :=
  iprop((oLoc d ↦[oSet (orow L g.val)]{fullShare} OUT ft fx) ∗ (rLoc d L ↦[sRow g.val]{fullShare} res ft fx L) ∗ semVal (thr d L, .dma (wSem g).sem) 0)

theorem pts_lHalf (h : Fin 2) (f : Buf (Elt F) (lLoc d L)) :
    ((lHalf h).view.loc (thr d L) ↦[(lHalf h).view.set]{fullShare} f : sProp (MM F)) = lLoc d L ↦[sHalf h.val]{fullShare} f := by rw [set_lHalf]
theorem pts_lRow (g : Fin 8) (f : Buf (Elt F) (lLoc d L)) :
    ((lRow g).view.loc (thr d L) ↦[(lRow g).view.set]{fullShare} f : sProp (MM F)) = lLoc d L ↦[sRow g.val]{fullShare} f := by rw [set_lRow]
theorem pts_rRow (g : Fin 8) (f : Buf (Elt F) (rLoc d L)) :
    ((rRow g).view.loc (thr d L) ↦[(rRow g).view.set]{fullShare} f : sProp (MM F)) = rLoc d L ↦[sRow g.val]{fullShare} f := by rw [set_rRow]
theorem pts_oRow (g : Fin 8) (f : Buf (Elt F) (oLoc d)) :
    ((oRow L g).view.loc (thr d L) ↦[(oRow L g).view.set]{fullShare} f : sProp (MM F)) = oLoc d ↦[oSet (orow L g.val)]{fullShare} f := by rw [set_oRow]
theorem pts_tBlk (g : Fin 8) (f : Buf (Elt F) (tLoc d)) :
    ((tBlk L g).view.loc (thr d L) ↦[(tBlk L g).view.set]{fullShare} f : sProp (MM F)) = tLoc d ↦[tSet (tblk L g.val)]{fullShare} f := by rw [set_tBlk]

theorem gather_credit : ∀ g : Fin 8, ∑ j, ((rRow g).slice (S128.rowRect (gathers_S16384_S128).axis' j) (S128.stride_rowRect (gathers_S16384_S128).axis' j)).view.dmaCredit
    = (rRow g).view.dmaCredit := by decide +kernel

variable [FloatOps F]

/-- The weakest precondition of a tile's program, the continuation's included. -/
abbrev WP (p : TileProg F L) (Q : PUnit → sProp (MM F)) : sProp (MM F) := wp frame (wpE (defs₀ (F := F)) 𝒱₀ (thr d L) none) Set.univ p Q

variable {Q : PUnit → sProp (MM F)} (k : PUnit → TileProg F L)

theorem wp_copyIn (h : Fin 2) :
    X0 d L fx qx h ⊢ iprop((X1 d L fx qx h -∗ WP d L (k ⟨⟩) Q) -∗ WP d L (copyIn L h >>= k) Q) := by
  unfold X0
  iintro ⟨Hx, ⟨%f, Hl⟩, Hs⟩ Hk
  ihave Hl' := (Entails.of_eq (pts_lHalf (F := F) d L h f).symm) $$ Hl
  iapply (Transfers.wp_dmaLocal countersEmb 𝒱₀ (thr d L) none (src := xHalf L h) (dst := lHalf h) (fs := fx) (default : HIx 1) ((lHalf h).view.dmaCredit) rfl
    (View.dmaCredit_pos _ (by decide)) (Finset.Subset.refl _)) $$ [Hx Hl' Hs]
  · isplitl [Hx]; · iexact Hx
    isplitl [Hl']; · iexact Hl'
    iexact Hs
  iintro Hfl
  iapply Hk
  unfold X1
  iapply (Transfers.Flight_mono countersEmb (thr d L) (show _ ⊢ _ from ?_)) $$ Hfl
  iintro ⟨Hl, Hx⟩
  isplitl [Hl]
  · iapply (Entails.of_eq (pts_lHalf (F := F) d L h _))
    iapply (Entails.of_eq (pointsTo_congr (half_write fx L h f))) $$ Hl
  · iexact Hx

theorem wp_waitIn (hO : ∀ g, O g none = 0) (h : Fin 2) :
    iprop(X1 d L fx qx h ∗ Inv d L O W) ⊢ iprop((iprop(X2 d L fx qx h ∗ Inv d L O W) -∗ WP d L (k ⟨⟩) Q) -∗ WP d L (waitIn L h >>= k) Q) := by
  unfold X1 Inv
  iintro ⟨Hfl, #Hlv, %W', %hW, HO⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (srcw := xHalf L h) (dstw := lHalf h) (default : HIx 1) rfl) $$ [Hfl HO]
  · isplitl [Hfl]; · iexact Hfl
    isplitl [HO]; · iexact HO
    iapply (Transfers.MayWaits.elim (SemLoc.dma (iSem h).sem)) $$ Hmw
  iintro ⟨⟨Hl, Hx⟩, Hs, HO⟩
  iapply Hk
  unfold X2
  isplitl [Hl Hx Hs]
  · isplitl [Hx]; · iexact Hx
    isplitl [Hl]; · iexact Hl
    iexact Hs
  isplitr; · iexact Hlv
  iexists _; isplitr
  swap; · iexact HO
  ipureintro; intro p hp
  rcases Finset.mem_insert.mp hp with hp | hp
  · exact .inr (hp ▸ rfl)
  · exact hW p hp

theorem wp_issue (hx : ∀ i, BitVec.toNat (fx i) < 16384) (g : Fin 8) :
    iprop(G0 d L ft g ∗ (lLoc d L ↦[sRow g.val]{fullShare} lst fx L)) ⊢ iprop((G1 d L ft fx g -∗ WP d L (k ⟨⟩) Q) -∗ WP d L (issue L g >>= k) Q) := by
  unfold G0
  iintro ⟨⟨Ht, ⟨%f, Hr⟩, Hs⟩, Hl⟩ Hk
  ihave Ht' := (Entails.of_eq (pts_tBlk (F := F) d L g ft).symm) $$ Ht
  ihave Hr' := (Entails.of_eq (pts_rRow (F := F) d L g f).symm) $$ Hr
  ihave Hl' := (Entails.of_eq (pts_lRow (F := F) d L g _).symm) $$ Hl
  iapply (SparseCore.wp_indirectGatherLocal countersEmb 𝒱₀ (thr d L) none (src := tBlk L g) (dst := rRow g) (offs := lRow g) (hg := gathers_S16384_S128) (default : HIx 1)
      ((rRow g).view.dmaCredit) (gather_credit g) (by decide) (lst_inb hx L g)) $$ [Ht' Hr' Hl' Hs]
  · isplitl [Ht']; · iexact Ht'
    isplitl [Hr']; · iexact Hr'
    isplitl [Hl']; · iexact Hl'
    iexact Hs
  iintro Hfl
  iapply Hk
  unfold G1
  iapply (Transfers.Flight_mono countersEmb (thr d L) (show _ ⊢ _ from ?_)) $$ Hfl
  iintro ⟨Hr, Ht, Hl⟩
  isplitl [Hr]
  · iapply (Entails.of_eq (pts_rRow (F := F) d L g _))
    iapply (Entails.of_eq (pointsTo_congr (row_gather ft fx L g f _ (lst_inb hx L g)))) $$ Hr
  isplitl [Ht]
  · iapply (Entails.of_eq (pts_tBlk (F := F) d L g _)) $$ Ht
  · iapply (Entails.of_eq (pts_lRow (F := F) d L g _)) $$ Hl

theorem wp_turn (hO : ∀ g, O g none = 0) (g : Fin 8) :
    iprop((G1 d L ft fx g ∗ O0 d L g) ∗ Inv d L O W)
      ⊢ iprop((iprop((G2 d L ft fx g ∗ O1 d L ft fx g) ∗ Inv d L O W) -∗ WP d L (k ⟨⟩) Q) -∗ WP d L ((landed L g >>= fun _ => writeOut L g) >>= k) Q) := by
  unfold G1 O0 Inv
  iintro ⟨⟨Hfl, ⟨%f, Ho⟩, Hs⟩, #Hlv, %W', %hW, HO⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (srcw := tBlk L g) (dstw := rRow g) (k := fun _ => writeOut L g >>= k) (default : HIx 1) rfl) $$ [Hfl HO]
  · isplitl [Hfl]; · iexact Hfl
    isplitl [HO]; · iexact HO
    iapply (Transfers.MayWaits.elim (SemLoc.dma (gSem g).sem)) $$ Hmw
  iintro ⟨⟨Hr, Ht, Hl⟩, Hg, HO⟩
  ihave Hr' := (Entails.of_eq (pts_rRow (F := F) d L g _).symm) $$ Hr
  ihave Ho' := (Entails.of_eq (pts_oRow (F := F) d L g f).symm) $$ Ho
  iapply (Transfers.wp_dmaLocal countersEmb 𝒱₀ (thr d L) none (src := rRow g) (dst := oRow L g) (fs := res ft fx L) (k := k) (default : HIx 1) ((oRow L g).view.dmaCredit) rfl
    (View.dmaCredit_pos _ (by decide)) (Finset.Subset.refl _)) $$ [Hr' Ho' Hs]
  · isplitl [Hr']; · iexact Hr'
    isplitl [Ho']; · iexact Ho'
    iexact Hs
  iintro Hfl
  iapply Hk
  unfold G2 O1
  isplitl [Ht Hl Hg Hfl]
  · isplitl [Ht Hl Hg]
    · isplitl [Ht]; · iexact Ht
      isplitl [Hl]; · iexact Hl
      iexact Hg
    iapply (Transfers.Flight_mono countersEmb (thr d L) (show _ ⊢ _ from ?_)) $$ Hfl
    iintro ⟨Ho, Hr⟩
    isplitl [Ho]
    · iapply (Entails.of_eq (pts_oRow (F := F) d L g _))
      iapply (Entails.of_eq (pointsTo_congr (out_write ft fx L g f))) $$ Ho
    · iapply (Entails.of_eq (pts_rRow (F := F) d L g _)) $$ Hr
  isplitr; · iexact Hlv
  iexists _; isplitr
  swap; · iexact HO
  ipureintro; intro p hp
  rcases Finset.mem_insert.mp hp with hp | hp
  · exact .inr (hp ▸ rfl)
  · exact hW p hp

theorem wp_drain (hO : ∀ g, O g none = 0) (g : Fin 8) :
    iprop(O1 d L ft fx g ∗ Inv d L O W) ⊢ iprop((iprop(O2 d L ft fx g ∗ Inv d L O W) -∗ WP d L (k ⟨⟩) Q) -∗ WP d L (drain L g >>= k) Q) := by
  unfold O1 Inv
  iintro ⟨Hfl, #Hlv, %W', %hW, HO⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (srcw := rRow g) (dstw := oRow L g) (default : HIx 1) rfl) $$ [Hfl HO]
  · isplitl [Hfl]; · iexact Hfl
    isplitl [HO]; · iexact HO
    iapply (Transfers.MayWaits.elim (SemLoc.dma (wSem g).sem)) $$ Hmw
  iintro ⟨⟨Ho, Hr⟩, Hs, HO⟩
  iapply Hk
  unfold O2
  isplitl [Ho Hr Hs]
  · isplitl [Ho]; · iexact Ho
    isplitl [Hr]; · iexact Hr
    iexact Hs
  isplitr; · iexact Hlv
  iexists _; isplitr
  swap; · iexact HO
  ipureintro; intro p hp
  rcases Finset.mem_insert.mp hp with hp | hp
  · exact .inr (hp ▸ rfl)
  · exact hW p hp

end Steps

end Cert.Proof.Focal

end
-- ==== Proof.Tile.lean ====
/-
  The tile's whole run: from its eight blocks of the table, its share of the indices and its eight rows of the result to
  the result's rows written, everything else given back.
-/
module

public import proofs.«01_k».proof.Proof.Steps

@[expose] public section

noncomputable section

namespace Cert.Proof.Focal

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Splitting -/

/-- A points-to is those of disjoint sets that cover the array. -/
theorem pts_cover {ℓ : Loc nD τ sig} {J : Type} [Fintype J] (A : J → Finset (Idx ℓ)) (n : Idx ℓ → J) (hA : ∀ j i, i ∈ A j ↔ n i = j)
    (q : PosShare TreeShare) (f : Buf (Elt F) ℓ) : (ℓ ↦{q} f : sProp (MM F)) = bigSep Finset.univ fun j => ℓ ↦[A j]{q} f := by
  classical
  rw [← pointsTo_biUnion Finset.univ A fun a _ b _ hab => Finset.disjoint_left.mpr fun i ha hb => hab (((hA a i).mp ha).symm.trans ((hA b i).mp hb))]
  congr 1
  ext i
  exact ⟨fun _ => Finset.mem_biUnion.mpr ⟨n i, Finset.mem_univ _, (hA _ i).mpr rfl⟩, fun _ => Finset.mem_univ _⟩

/-- A points-to of one set is those of disjoint sets whose union it is. -/
theorem pts_parts {ℓ : Loc nD τ sig} {J : Type} [Fintype J] (S : Finset (Idx ℓ)) (A : J → Finset (Idx ℓ)) (hd : ∀ a b i, i ∈ A a → i ∈ A b → a = b)
    (hS : ∀ i, i ∈ S ↔ ∃ j, i ∈ A j)
    (q : PosShare TreeShare) (f : Buf (Elt F) ℓ) : (ℓ ↦[S]{q} f : sProp (MM F)) = bigSep Finset.univ fun j => ℓ ↦[A j]{q} f := by
  classical
  rw [← pointsTo_biUnion Finset.univ A fun a _ b _ hab => Finset.disjoint_left.mpr fun i ha hb => hab (hd a b i ha hb)]
  congr 1
  ext i
  rw [hS]
  exact ⟨fun ⟨j, h⟩ => Finset.mem_biUnion.mpr ⟨j, Finset.mem_univ _, h⟩, fun h => by obtain ⟨j, -, h⟩ := Finset.mem_biUnion.mp h; exact ⟨j, h⟩⟩

/-- Existentials over each conjunct from one for all. -/
theorem bigSep_each {J : Type} [Fintype J] {Y : J → Type} (Φ : (j : J) → Y j → sProp (MM F)) (y : (j : J) → Y j) :
    bigSep Finset.univ (fun j => Φ j (y j)) ⊢ bigSep Finset.univ fun j => iprop(∃ y, Φ j y) :=
  bigSep_mono fun j _ => exists_intro (Φ := fun z => Φ j z) (y j)

/-- The rows of the halves are the rows. -/
def rowEquiv : Fin 2 × Fin 4 ≃ Fin 8 where
  toFun p := rowOf p.1 p.2
  invFun g := (⟨g.val / 4, by omega⟩, ⟨g.val % 4, by omega⟩)
  left_inv p := by
    refine Prod.ext (Fin.ext ?_) (Fin.ext ?_)
    · show (4 * p.1.val + p.2.val) / 4 = _; omega
    · show (4 * p.1.val + p.2.val) % 4 = _; omega
  right_inv g := Fin.ext (by show 4 * (g.val / 4) + g.val % 4 = _; omega)

theorem bigSep_rows (Φ : Fin 8 → sProp (MM F)) :
    bigSep Finset.univ Φ = bigSep Finset.univ fun h : Fin 2 => bigSep Finset.univ fun g : Fin 4 => Φ (rowOf h g) := by
  rw [bigSep_univ_equiv rowEquiv, bigSep_univ_prod]; rfl

section Tile

variable (d : Dev nD) (L : grid0.Coords)

theorem l_halves (f : Buf (Elt F) (lLoc d L)) : (lLoc d L ↦{fullShare} f : sProp (MM F)) = bigSep Finset.univ fun h : Fin 2 => lLoc d L ↦[sHalf h.val]{fullShare} f :=
  pts_cover (ℓ := lLoc d L) (fun h : Fin 2 => sHalf h.val) (fun i => ⟨(i 0 : Fin 8).val / 4, Nat.div_lt_of_lt_mul (i 0 : Fin 8).isLt⟩)
    (fun j i => mem_sHalf.trans ⟨fun h => Fin.ext h, fun h => congrArg Fin.val h⟩) _ f
theorem l_rows (f : Buf (Elt F) (lLoc d L)) : (lLoc d L ↦{fullShare} f : sProp (MM F)) = bigSep Finset.univ fun g : Fin 8 => lLoc d L ↦[sRow g.val]{fullShare} f :=
  pts_cover (ℓ := lLoc d L) (fun g : Fin 8 => sRow g.val) (fun i => (i 0 : Fin 8)) (fun j i => mem_sRow.trans ⟨fun h => Fin.ext h, fun h => congrArg Fin.val h⟩) _ f
theorem r_rows (f : Buf (Elt F) (rLoc d L)) : (rLoc d L ↦{fullShare} f : sProp (MM F)) = bigSep Finset.univ fun g : Fin 8 => rLoc d L ↦[sRow g.val]{fullShare} f :=
  pts_cover (ℓ := rLoc d L) (fun g : Fin 8 => sRow g.val) (fun i => (i 0 : Fin 8)) (fun j i => mem_sRow.trans ⟨fun h => Fin.ext h, fun h => congrArg Fin.val h⟩) _ f
theorem half_rows (h : Fin 2) (f : Buf (Elt F) (lLoc d L)) :
    (lLoc d L ↦[sHalf h.val]{fullShare} f : sProp (MM F)) = bigSep Finset.univ fun g : Fin 4 => lLoc d L ↦[sRow (rowOf h g).val]{fullShare} f := by
  refine pts_parts (ℓ := lLoc d L) (sHalf h.val) (fun g : Fin 4 => sRow (rowOf h g).val) (fun a b i ha hb => ?_) (fun i => ?_) _ f
  · have e := (mem_sRow.mp ha).symm.trans (mem_sRow.mp hb)
    exact Fin.ext (by have : 4 * h.val + a.val = 4 * h.val + b.val := e; omega)
  · refine mem_sHalf.trans ⟨fun e => ⟨⟨(i 0 : Fin 8).val % 4, Nat.mod_lt _ (by decide)⟩, mem_sRow.mpr ?_⟩, fun ⟨g, hg⟩ => ?_⟩
    · have e' : (i 0 : Fin 8).val / 4 = h.val := e
      show (i 0 : Fin 8).val = 4 * h.val + (i 0 : Fin 8).val % 4; omega
    · have e' : (i 0 : Fin 8).val = 4 * h.val + g.val := mem_sRow.mp hg
      show (i 0 : Fin 8).val / 4 = h.val; omega

/-- Half `h` of a share. -/
abbrev xq (q : PosShare TreeShare) (h : Fin 2) : PosShare TreeShare := pieceOf q 2 (by decide) h

/-- The indices' share, split between the two copies: each its half of the share at the rows it reads, and the rest. -/
theorem x_halves (q : PosShare TreeShare) (f : Buf (Elt F) (xLoc d)) :
    (xLoc d ↦{q} f : sProp (MM F)) = iprop((bigSep Finset.univ fun h : Fin 2 => xLoc d ↦[(xHalf L h).view.set]{xq q h} f)
      ∗ bigSep Finset.univ fun h : Fin 2 => xLoc d ↦[Finset.univ \ (xHalf L h).view.set]{xq q h} f) := by
  refine (pointsTo_piecesOf (o := 2) Finset.univ f (by decide) q).trans (Eq.trans ?_ (bigSep_sep' _ _ _))
  refine bigSep_congr fun h _ => ?_
  have e := pointsTo_split_subset (Ix := HIx 1) (Name := ℕ) (U := UU) (Lvl := ℕ) (ℓ := xLoc d) (q := xq q h) (f := f) (S := Finset.univ) (Finset.subset_univ (xHalf L h).view.set)
  exact BI.Entails.antisymm e.1 e.2

/-! ## The semaphores and the scratch arrays among the subcore's own -/

/-- The tile's eighteen transfer semaphores. -/
def semOf : Fin 2 ⊕ (Fin 8 ⊕ Fin 8) → SemLoc sig
  | .inl h => .dma (iSem h).sem
  | .inr (.inl g) => .dma (gSem g).sem
  | .inr (.inr g) => .dma (wSem g).sem
theorem semOf_injective : Function.Injective semOf := by decide +kernel
theorem semOf_scoped : ∀ s, (semOf s).isScoped .scVector = true := by decide +kernel

/-- The tile's own cells other than those. -/
def otherCells : Finset (GSem nD τ sig) := ownCells (thr d L) \ Finset.univ.image fun s => (thr d L, semOf s)

theorem ownSems0_V :
    (ownSems0 (thr d L) : sProp (MM F))
      = iprop(((bigSep Finset.univ fun h : Fin 2 => semVal (thr d L, .dma (iSem h).sem) 0)
          ∗ (bigSep Finset.univ fun g : Fin 8 => semVal (thr d L, .dma (gSem g).sem) 0)
          ∗ bigSep Finset.univ fun g : Fin 8 => semVal (thr d L, .dma (wSem g).sem) 0)
        ∗ bigSep (otherCells d L) fun g => semVal g 0) := by
  unfold SparseCore.Cfg.ownSems0
  refine (SparseCore.bigSep_sdiff_split' (t := Finset.univ.image fun s => ((thr d L, semOf s) : GSem nD τ sig)) (fun x hx => by
    obtain ⟨s, -, rfl⟩ := Finset.mem_image.mp hx; exact mem_ownCells.mpr ⟨rfl, semOf_scoped s⟩)).trans ?_
  rw [SparseCore.bigSep_image_of_injOn (fun a _ b _ h => semOf_injective (Prod.mk.inj h).2)]
  congr 1
  rw [bigSep_univ_sum, bigSep_univ_sum]
  rfl

theorem ownBufs_V :
    (ownBufs (thr d L) : sProp (MM F))
      = iprop((∃ f, lLoc d L ↦{fullShare} f) ∗ (∃ f, rLoc d L ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The run -/

variable (ft : S4194304.Idx → Elt F .f32) (fx : S32x128.Idx → Elt F .i32) (q : PosShare TreeShare)

/-- What the tile takes and gives back, its rows of the result at `fo`. -/
def Task (fo : S256x128.Idx → Elt F .f32) : sProp (MM F) :=
  iprop((bigSep Finset.univ fun g : Fin 8 => tLoc d ↦[tSet (tblk L g.val)]{fullShare} ft) ∗ (xLoc d ↦{q} fx)
    ∗ bigSep Finset.univ fun g : Fin 8 => oLoc d ↦[oSet (orow L g.val)]{fullShare} fo)

variable [FloatOps F]

/-- A loop, by the rule for one of its steps. -/
theorem wp_seqF {Q : PUnit → sProp (MM F)} (I : sProp (MM F)) :
    ∀ (n : ℕ) (f : Fin n → TileProg F L) (A B : Fin n → sProp (MM F))
      (_ : ∀ g (k : PUnit → TileProg F L), iprop(A g ∗ I) ⊢ iprop((iprop(B g ∗ I) -∗ WP d L (k ⟨⟩) Q) -∗ WP d L (f g >>= k) Q)) (k : PUnit → TileProg F L),
      iprop(bigSep Finset.univ A ∗ I) ⊢ iprop((iprop(bigSep Finset.univ B ∗ I) -∗ WP d L (k ⟨⟩) Q) -∗ WP d L (seqF n f >>= k) Q)
  | 0, f, A, B, _, k => by
    rw [Finset.univ_eq_empty, bigSep_empty, bigSep_empty]
    show _ ⊢ iprop(_ -∗ WP d L (k ⟨⟩) Q)
    iintro H Hk
    iapply Hk $$ H
  | n + 1, f, A, B, step, k => by
    have hs (Φ : Fin (n + 1) → sProp (MM F)) : bigSep Finset.univ Φ = iprop(Φ 0 ∗ bigSep Finset.univ fun i : Fin n => Φ i.succ) := by
      rw [Fin.univ_succ, Finset.cons_eq_insert, SparseCore.bigSep_insert' (by simp [Fin.succ_ne_zero]), BI.bigSep_map]; rfl
    have ih := wp_seqF I n (fun i => f i.succ) (fun i => A i.succ) (fun i => B i.succ) (fun g => step g.succ) k
    have h0 := step 0 (fun _ => seqF n (fun i => f i.succ) >>= k)
    rw [hs A, hs B]
    show _ ⊢ iprop(_ -∗ WP d L (seqF (n + 1) f >>= k) Q)
    rw [show (seqF (n + 1) f >>= k) = (f 0 >>= fun _ => seqF n (fun i => f i.succ) >>= k) from Prog.bind_assoc _ _ _]
    iintro ⟨⟨HA, HAs⟩, HI⟩ Hk
    iapply h0 $$ [HA HI]
    · isplitl [HA] <;> iassumption
    iintro ⟨HB, HI⟩
    iapply ih $$ [HAs HI]
    · isplitl [HAs] <;> iassumption
    iintro ⟨HBs, HI⟩
    iapply Hk
    isplitl [HB HBs]
    · isplitl [HB] <;> iassumption
    · iexact HI

set_option maxHeartbeats 1000000 in
/-- The tile's run. -/
theorem tile_body (hF : (K (F := F)).Facts) (hx : ∀ i, BitVec.toNat (fx i) < 16384) (fo : S256x128.Idx → Elt F .f32)
    (O : CellTallies nD τ sig (HIx 1)) (W : Waits sig (HIx 1)) (hO : ∀ g, O g none = 0) :
    iprop(levAts (K (F := F)).L (K (F := F)).lev ∗ emp ∗ Task d L ft fx q fo
        ∗ scopedBufs (thr d L) ∗ scopedSems0 (thr d L) ∗ owes (thr d L) O W)
      ⊢ wp frame (wpE (defs₀ (F := F)) 𝒱₀ (thr d L) none) Set.univ (prog L)
          fun _ => iprop(Task d L ft fx q (OUT ft fx) ∗ scopedBufs (thr d L) ∗ scopedSems0 (thr d L)
            ∗ ∃ W', ⌜∀ p ∈ W', p ∈ W ∨ p.2 = none⌝ ∗ owes (thr d L) O W') := by
  rw [prog_eq, (K (F := F)).scopedBufs_V hF d (cV L) (jV L), SparseCore.Cfg.scopedSems0_V (Val := Elt F) d (cV L) (jV L), ownSems0_V, ownBufs_V]
  unfold Task
  rw [x_halves d L q fx]
  iintro ⟨#Hlv, -, ⟨Ht, ⟨Hx, Hxr⟩, Ho⟩, ⟨⟨%fl, Hl⟩, ⟨%fr, Hr⟩, Hbufs⟩, ⟨⟨Hsi, Hsg, Hsw⟩, Hsems⟩, HO⟩
  -- the loop's states before anything has run
  ihave HX := (show iprop((bigSep Finset.univ fun h : Fin 2 => xLoc d ↦[(xHalf L h).view.set]{xq q h} fx)
      ∗ (lLoc d L ↦{fullShare} fl) ∗ bigSep Finset.univ fun h : Fin 2 => semVal (thr d L, .dma (iSem h).sem) 0)
      ⊢ bigSep Finset.univ (X0 d L fx (xq q)) from by
    unfold X0
    rw [bigSep_sep', bigSep_sep', l_halves]
    iintro ⟨Hx, Hl, Hs⟩
    isplitl [Hx]; · iexact Hx
    isplitl [Hl]; · iapply (bigSep_each (F := F) (fun h : Fin 2 => fun f => lLoc d L ↦[sHalf h.val]{fullShare} f) fun _ => fl) $$ Hl
    iexact Hs) $$ [Hx Hl Hsi]
  · isplitl [Hx]; · iexact Hx
    isplitl [Hl]; · iexact Hl
    iexact Hsi
  ihave HG := (show iprop((bigSep Finset.univ fun g : Fin 8 => tLoc d ↦[tSet (tblk L g.val)]{fullShare} ft)
      ∗ (rLoc d L ↦{fullShare} fr) ∗ bigSep Finset.univ fun g : Fin 8 => semVal (thr d L, .dma (gSem g).sem) 0)
      ⊢ bigSep Finset.univ fun h : Fin 2 => bigSep Finset.univ fun g : Fin 4 => G0 d L ft (rowOf h g) from by
    rw [← bigSep_rows]
    unfold G0
    rw [bigSep_sep', bigSep_sep', r_rows]
    iintro ⟨Ht, Hr, Hs⟩
    isplitl [Ht]; · iexact Ht
    isplitl [Hr]; · iapply (bigSep_each (F := F) (fun g : Fin 8 => fun f => rLoc d L ↦[sRow g.val]{fullShare} f) fun _ => fr) $$ Hr
    iexact Hs) $$ [Ht Hr Hsg]
  · isplitl [Ht]; · iexact Ht
    isplitl [Hr]; · iexact Hr
    iexact Hsg
  ihave HOr := (show iprop((bigSep Finset.univ fun g : Fin 8 => oLoc d ↦[oSet (orow L g.val)]{fullShare} fo)
      ∗ bigSep Finset.univ fun g : Fin 8 => semVal (thr d L, .dma (wSem g).sem) 0)
      ⊢ bigSep Finset.univ (O0 d L) from by
    unfold O0
    rw [bigSep_sep']
    iintro ⟨Ho, Hs⟩
    isplitl [Ho]; · iapply (bigSep_each (F := F) (fun g : Fin 8 => fun f => oLoc d ↦[oSet (orow L g.val)]{fullShare} f) fun _ => fo) $$ Ho
    iexact Hs) $$ [Ho Hsw]
  · isplitl [Ho]; · iexact Ho
    iexact Hsw
  ihave HI := (show iprop(levAts (K (F := F)).L (K (F := F)).lev ∗ owes (thr d L) O W) ⊢ Inv d L O W from by
    unfold Inv
    iintro ⟨#Hlv, HO⟩
    isplitr; · iexact Hlv
    iexists W; isplitr
    · ipureintro; exact fun p hp => .inl hp
    · iexact HO) $$ [HO]
  · isplitr; · iexact Hlv
    iexact HO
  unfold body
  -- the indices' copies start
  iapply (wp_seqF d L iprop(emp) 2 (copyIn L) (X0 d L fx (xq q)) (X1 d L fx (xq q)) (fun h k => by
    iintro ⟨HX, -⟩ Hk
    iapply (wp_copyIn d L fx (xq q) k h) $$ HX
    iintro HX
    iapply Hk
    isplitl [HX]; · iexact HX
    iempintro) _) $$ [HX]
  · isplitl [HX]; · iexact HX
    iempintro
  iintro ⟨HX, -⟩
  -- each half lands, and its rows' gathers start
  iapply (wp_seqF d L (Inv d L O W) 2 (fun h => waitIn L h >>= fun _ => seqF 4 fun g => issue L (rowOf h g))
    (fun h => iprop(X1 d L fx (xq q) h ∗ bigSep Finset.univ fun g : Fin 4 => G0 d L ft (rowOf h g)))
    (fun h => iprop(((xLoc d ↦[(xHalf L h).view.set]{xq q h} fx) ∗ semVal (thr d L, .dma (iSem h).sem) 0)
      ∗ bigSep Finset.univ fun g : Fin 4 => G1 d L ft fx (rowOf h g))) (fun h k => by
    iintro ⟨⟨HX, HG⟩, HI⟩ Hk
    iapply (wp_waitIn d L fx (xq q) O W (fun _ => (seqF 4 fun g => issue L (rowOf h g)) >>= k) hO h) $$ [HX HI]
    · isplitl [HX] <;> iassumption
    iintro ⟨HX, HI⟩
    unfold X2
    icases HX with ⟨Hx, Hl, Hs⟩
    ihave Hl' := (Entails.of_eq (half_rows (F := F) d L h (lst fx L))) $$ Hl
    iapply (wp_seqF d L iprop(emp) 4 (fun g => issue L (rowOf h g)) (fun g => iprop(G0 d L ft (rowOf h g) ∗ (lLoc d L ↦[sRow (rowOf h g).val]{fullShare} lst fx L)))
      (fun g => G1 d L ft fx (rowOf h g)) (fun g k => by
      iintro ⟨HG, -⟩ Hk
      iapply (wp_issue d L ft fx k hx (rowOf h g)) $$ HG
      iintro HG
      iapply Hk
      isplitl [HG]; · iexact HG
      iempintro) k) $$ [HG Hl']
    · isplitl [HG Hl']
      · rw [bigSep_sep']
        isplitl [HG] <;> iassumption
      · iempintro
    iintro ⟨HG, -⟩
    iapply Hk
    isplitr [HI]
    · isplitl [Hx Hs]
      · isplitl [Hx] <;> iassumption
      · iexact HG
    · iexact HI) _) $$ [HX HG HI]
  · isplitr [HI]
    · rw [bigSep_sep']
      isplitl [HX] <;> iassumption
    · iexact HI
  rw [bigSep_sep', bigSep_sep', ← bigSep_rows (fun g => G1 d L ft fx g)]
  iintro ⟨⟨⟨Hx, Hsi⟩, HG⟩, HI⟩
  -- each gathered row lands and its write-out starts
  iapply (wp_seqF d L (Inv d L O W) 8 (fun g => landed L g >>= fun _ => writeOut L g) (fun g => iprop(G1 d L ft fx g ∗ O0 d L g))
    (fun g => iprop(G2 d L ft fx g ∗ O1 d L ft fx g)) (fun g k => wp_turn d L ft fx O W k hO g) _) $$ [HG HOr HI]
  · isplitr [HI]
    · rw [bigSep_sep']
      isplitl [HG] <;> iassumption
    · iexact HI
  rw [bigSep_sep']
  iintro ⟨⟨HG, HOr⟩, HI⟩
  -- the write-outs drain
  iapply (wp_seqF d L (Inv d L O W) 8 (drain L) (O1 d L ft fx) (O2 d L ft fx) (fun g k => wp_drain d L ft fx O W k hO g) _) $$ [HOr HI]
  · isplitl [HOr] <;> iassumption
  iintro ⟨HOr, HI⟩
  ihave HOr := (show bigSep Finset.univ (O2 d L ft fx) ⊢ iprop((bigSep Finset.univ fun g : Fin 8 => oLoc d ↦[oSet (orow L g.val)]{fullShare} OUT ft fx)
      ∗ (rLoc d L ↦{fullShare} res ft fx L) ∗ bigSep Finset.univ fun g : Fin 8 => semVal (thr d L, .dma (wSem g).sem) 0) from by
    unfold O2; rw [bigSep_sep', bigSep_sep', ← r_rows]) $$ HOr
  ihave HG := (show bigSep Finset.univ (G2 d L ft fx) ⊢ iprop((bigSep Finset.univ fun g : Fin 8 => tLoc d ↦[tSet (tblk L g.val)]{fullShare} ft)
      ∗ (lLoc d L ↦{fullShare} lst fx L) ∗ bigSep Finset.univ fun g : Fin 8 => semVal (thr d L, .dma (gSem g).sem) 0) from by
    unfold G2; rw [bigSep_sep', bigSep_sep', ← l_rows]) $$ HG
  ihave HI := (show Inv d L O W ⊢ iprop(∃ W', ⌜∀ p ∈ W', p ∈ W ∨ p.2 = none⌝ ∗ owes (thr d L) O W') from by
    unfold Inv; iintro ⟨-, H⟩; iexact H) $$ HI
  icases HOr with ⟨Ho, Hr, Hsw⟩
  icases HG with ⟨Ht, Hl, Hsg⟩
  icases HI with ⟨%W', %hW, HO⟩
  unfold WP
  sl_step
  isplitl [Ht Hx Hxr Ho]
  · isplitl [Ht]; · iexact Ht
    isplitl [Hx Hxr]
    · isplitl [Hx] <;> iassumption
    iexact Ho
  isplitl [Hl Hr Hbufs]
  · isplitl [Hl]; · iexists _; iexact Hl
    isplitl [Hr]; · iexists _; iexact Hr
    iexact Hbufs
  isplitl [Hsi Hsg Hsw Hsems]
  · isplitr [Hsems]
    · isplitl [Hsi]; · iexact Hsi
      isplitl [Hsg] <;> iassumption
    iexact Hsems
  iexists W'; isplitr
  · ipureintro; exact hW
  · iexact HO

end Tile

end Cert.Proof.Focal

end
-- ==== Proof.Split.lean ====
/-
  What the launch hands each subcore and takes back: the subcore's obligation met by its run, and the whole table,
  indices and result as the thirty-two subcores' shares.
-/
module

public import proofs.«01_k».proof.Proof.Tile

@[expose] public section

noncomputable section

namespace Cert.Proof.Focal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The grid point of SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The share of the indices that subcore `s` of SparseCore `c` reads. -/
abbrev xsh (c : Fin 2) (s : Fin 16) : PosShare TreeShare :=
  Idealize.ShloMosaic.pieceOf (Idealize.ShloMosaic.pieceOf fullShare 2 (by decide) c) 16 (by decide) s

section Pay

variable (ft : Dev nD → S4194304.Idx → Elt F .f32) (fx : Dev nD → S32x128.Idx → Elt F .i32) (fo : Dev nD → S256x128.Idx → Elt F .f32)

/-- What subcore `s` of SparseCore `c` is handed, the result at `o`. -/
abbrev TaskAt (o : Dev nD → S256x128.Idx → Elt F .f32) (d : Dev nD) (c : Fin 2) (s : Fin 16) : sProp (MM F) :=
  Task d (coordsV c s) (ft d) (fx d) (xsh c s) (o d)

/-- The result after the call. -/
abbrev gathered (d : Dev nD) : S256x128.Idx → Elt F .f32 := OUT (ft d) (fx d)

/-- What the handshakes carry: to a SparseCore all its subcores' tasks, to a subcore its own; back the same, the result's
    rows written. -/
def P : (K (F := F)).Pay (nD := nD) (Val := Elt F) (Name := ℕ) (U := UU) where
  st := fun q d c => match q with | 0 => bigSep Finset.univ fun s : Fin 16 => TaskAt ft fx fo d c s
  dn := fun q d c => match q with | 0 => bigSep Finset.univ fun s : Fin 16 => TaskAt ft fx (gathered ft fx) d c s
  go := fun q d c s => match q with | 0 => TaskAt ft fx fo d c s
  td := fun q d c s => match q with | 0 => TaskAt ft fx (gathered ft fx) d c s
  x := fun _ _ => iprop(emp)

instance Task_storable (d : Dev nD) (L : grid0.Coords) (f : S4194304.Idx → Elt F .f32) (g : S32x128.Idx → Elt F .i32) (q : PosShare TreeShare)
    (o : S256x128.Idx → Elt F .f32) : BI.Storable (upEmb : UEmb _ (MM F)) (Task d L f g q o) := by
  unfold Task; infer_instance

theorem tasks_storable (o : Dev nD → S256x128.Idx → Elt F .f32) (d : Dev nD) (c : Fin 2) :
    BI.Storable (upEmb : UEmb _ (MM F)) (bigSep Finset.univ fun s : Fin 16 => TaskAt ft fx o d c s) :=
  haveI : ∀ s : Fin 16, BI.Storable (upEmb : UEmb _ (MM F)) (TaskAt ft fx o d c s) := fun s => Task_storable d (coordsV c s) _ _ _ _
  BI.Storable.bigSep _ _ _

instance P_storable : (P ft fx fo).IsStorable where
  st q d c := match q with
    | 0 => tasks_storable ft fx fo d c
  dn q d c := match q with
    | 0 => tasks_storable ft fx (gathered ft fx) d c
  go q d c s := match q with | 0 => Task_storable d (coordsV c s) _ _ _ _
  td q d c s := match q with | 0 => Task_storable d (coordsV c s) _ _ _ _

/-! ## The subcore's obligation -/

section Obl

variable [FloatOps F]

theorem defs₀_vector (c : Fin τ.nSC) (s : Fin τ.nSub) :
    defs₀ (F := F) (.scVector c s) 0 () = SparseCore.onTile hcore0 hsub0 (fun c s => prog (coordsV c s)) ⟨⟩ c s := rfl

omit [FloatOps F] in
/-- The waits a task records are at the call's own index or none. -/
theorem obl_post {th : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hx : ∀ d i, BitVec.toNat (fx d i) < 16384) : (K (F := F)).TileObl (D (F := F)) 𝒱 (P ft fx fo) v₀ 0 := by
  intro d c i O W hO _ _
  simp only [show (P ft fx fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (ft d) (fx d) (xsh c i) hF (hx d) (fo d) O W hO).trans (wp_mono frame _ _ fun _ => obl_post)

end Obl

/-- A SparseCore's task is its subcores'. -/
theorem vecSplit : (K (F := F)).VecSplit' (P ft fx fo) 0 := by
  intro d c
  show (bigSep Finset.univ fun s : Fin 16 => TaskAt ft fx fo d c s) ⊢ |={Set.univ}=> iprop(
      (bigSep Finset.univ fun s : Fin 16 => TaskAt ft fx fo d c s)
      ∗ ((bigSep Finset.univ fun s : Fin 16 => TaskAt ft fx (gathered ft fx) d c s)
          -∗ bigSep Finset.univ fun s : Fin 16 => TaskAt ft fx (gathered ft fx) d c s))
  iintro H; imodintro
  isplitl [H]; · iexact H
  iintro H; iexact H

/-! ## The whole arrays dealt out and joined -/

/-- Which worker reads block `n` of the table, and for which of its gathers; -/
def tWho (n : ℕ) : (Fin 2 × Fin 16) × Fin 8 :=
  ((⟨(n % 8 * 4 + n / 64 % 4) % 2, by omega⟩, ⟨(n % 8 * 4 + n / 64 % 4) / 2 % 16, by omega⟩), ⟨n / 8 % 8, by omega⟩)
/-- and which fills row `n` of the result. -/
def oWho (n : ℕ) : (Fin 2 × Fin 16) × Fin 8 := ((⟨n / 8 % 2, by omega⟩, ⟨n / 16 % 16, by omega⟩), ⟨n % 8, by omega⟩)

theorem tWho_iff (j : (Fin 2 × Fin 16) × Fin 8) {n : ℕ} (hn : n < 256) : n = tblk (coordsV j.1.1 j.1.2) j.2.val ↔ tWho n = j := by
  obtain ⟨⟨c, s⟩, g⟩ := j
  have hw : wk (coordsV c s) = s.val * 2 + c.val := rfl
  have hc : c.val < 2 := c.isLt
  have hs : s.val < 16 := s.isLt
  have hg : g.val < 8 := g.isLt
  simp only [tWho, Prod.mk.injEq, Fin.ext_iff, tblk, brow]
  have hs2 : (s.val * 2 + c.val) / 2 = s.val := by omega
  have hc2 : (s.val * 2 + c.val) % 2 = c.val := by omega
  have hw32 : s.val * 2 + c.val < 32 := by omega
  rw [hw]
  generalize s.val * 2 + c.val = w at hs2 hc2 hw32 ⊢
  constructor
  · intro e
    have e1 : n % 8 = w / 4 := by omega
    have e5 : n / 8 = w % 4 * 8 + g.val := by omega
    have e6 : n / 8 / 8 = w % 4 := by omega
    have e2 : n / 64 % 4 = w % 4 := by rw [show n / 64 = n / 8 / 8 from (Nat.div_div_eq_div_mul n 8 8).symm, e6]; exact Nat.mod_mod _ _
    have e3 : n % 8 * 4 + n / 64 % 4 = w := by omega
    have e4 : n / 8 % 8 = g.val := by omega
    rw [e3, e4, hs2, hc2]
    exact ⟨⟨rfl, Nat.mod_eq_of_lt s.isLt⟩, rfl⟩
  · rintro ⟨⟨h1, h2⟩, h3⟩
    have e3 : n % 8 * 4 + n / 64 % 4 = w := by
      have hl : n % 8 * 4 + n / 64 % 4 < 32 := by omega
      generalize n % 8 * 4 + n / 64 % 4 = u at *
      omega
    have e1 : n % 8 = w / 4 := by omega
    have e2 : n / 64 = w % 4 := by omega
    omega
theorem oWho_iff (j : (Fin 2 × Fin 16) × Fin 8) {n : ℕ} (hn : n < 256) : n = orow (coordsV j.1.1 j.1.2) j.2.val ↔ oWho n = j := by
  obtain ⟨⟨c, s⟩, g⟩ := j
  have hw : wk (coordsV c s) = s.val * 2 + c.val := rfl
  have := c.isLt; have := s.isLt; have := g.isLt
  simp only [oWho, Prod.mk.injEq, Fin.ext_iff, orow, hw]
  omega

/-- The table as its blocks, by who reads them; -/
theorem t_deal (d : Dev nD) (f : S4194304.Idx → Elt F .f32) : (tLoc d ↦{fullShare} f : sProp (MM F))
    = bigSep Finset.univ fun c : Fin 2 => bigSep Finset.univ fun s : Fin 16 => bigSep Finset.univ fun g : Fin 8 =>
        tLoc d ↦[tSet (tblk (coordsV c s) g.val)]{fullShare} f := by
  refine (pts_cover (ℓ := tLoc d) (J := (Fin 2 × Fin 16) × Fin 8) (fun j => tSet (tblk (coordsV j.1.1 j.1.2) j.2.val))
    (fun i => tWho ((i 0 : Fin 4194304).val / 16384)) (fun j i => mem_tSet.trans (tWho_iff j (Nat.div_lt_of_lt_mul (i 0 : Fin 4194304).isLt))) fullShare f).trans ?_
  rw [bigSep_univ_prod, bigSep_univ_prod]
/-- the result as its rows, by who fills them; -/
theorem o_deal (d : Dev nD) (f : S256x128.Idx → Elt F .f32) : (oLoc d ↦{fullShare} f : sProp (MM F))
    = bigSep Finset.univ fun c : Fin 2 => bigSep Finset.univ fun s : Fin 16 => bigSep Finset.univ fun g : Fin 8 =>
        oLoc d ↦[oSet (orow (coordsV c s) g.val)]{fullShare} f := by
  refine (pts_cover (ℓ := oLoc d) (J := (Fin 2 × Fin 16) × Fin 8) (fun j => oSet (orow (coordsV j.1.1 j.1.2) j.2.val))
    (fun i => oWho (i 0 : Fin 256).val) (fun j i => mem_oSet.trans (oWho_iff j (i 0 : Fin 256).isLt)) fullShare f).trans ?_
  rw [bigSep_univ_prod, bigSep_univ_prod]
theorem x_pieces (n : ℕ) (hn : 0 < n) (d : Dev nD) (q : PosShare TreeShare) (f : S32x128.Idx → Elt F .i32) : (xLoc d ↦{q} f : sProp (MM F))
    = bigSep Finset.univ fun s : Fin n => xLoc d ↦{Idealize.ShloMosaic.pieceOf q n hn s} f :=
  pointsTo_piecesOf (ℓ := xLoc d) Finset.univ f hn q
/-- the indices as read shares. -/
theorem x_deal (d : Dev nD) (f : S32x128.Idx → Elt F .i32) : (xLoc d ↦{fullShare} f : sProp (MM F))
    = bigSep Finset.univ fun c : Fin 2 => bigSep Finset.univ fun s : Fin 16 => xLoc d ↦{xsh c s} f := by
  refine (x_pieces 2 (by decide) d fullShare f).trans (bigSep_congr fun c _ => ?_)
  exact x_pieces 16 (by decide) d _ f

/-- The three arrays whole are every subcore's task. -/
theorem deal (d : Dev nD) (o : Dev nD → S256x128.Idx → Elt F .f32) :
    (bigSep Finset.univ fun c : Fin 2 => bigSep Finset.univ fun s : Fin 16 => TaskAt ft fx o d c s)
      = iprop((tLoc d ↦{fullShare} ft d) ∗ (xLoc d ↦{fullShare} fx d) ∗ oLoc d ↦{fullShare} o d) := by
  rw [t_deal, o_deal, x_deal]
  unfold TaskAt Task
  simp only [bigSep_sep']

end Pay

end Cert.Proof.Focal

end
-- ==== Proof.Run.lean ====
/-
  The whole program's run: the host's reshape, the gather on the SparseCores, the host's rearrangements, the loss
  kernel, the host's last reshape. It leaves every host buffer at the valuation `Vend`.
-/
module

public import proofs.«01_k».proof.Proof.Region
public import proofs.«01_k».proof.Proof.Split
public import Idealize.ShloMosaic.Lib.SparseCore.Quiescent

@[expose] public section

noncomputable section

namespace Cert.Proof.Focal

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Pipeline (ucRefs)

variable {F : FTy → Type} [FloatOps F]

/-! ## The host's operations and the valuations between them -/

abbrev opFlat : HloOp τ sig (Elt F) := StableHlo.reshape main_arg0 main_v0 (rfl : (.f32 : EltTy) = .f32) shapeCasts_S32x8x128x128_S4194304
abbrev opPred : HloOp τ sig (Elt F) := StableHlo.reshape main_v1 main_v2 (rfl : (.f32 : EltTy) = .f32) shapeCasts_S256x128_S8x32x128
abbrev opBin : HloOp τ sig (Elt F) := StableHlo.unary main_arg3 main_v3 ((transpose S2x32x128 [2, 0, 1] · transposes_S32x128x2_S2x32x128_2_0_1) : (⟨S32x128x2, .i32⟩ : BufTy).Contents (Elt F) → (⟨S2x32x128, .i32⟩ : BufTy).Contents (Elt F))
abbrev opRes : HloOp τ sig (Elt F) := StableHlo.unary main_arg4 main_v4 ((transpose S2x32x128 [2, 0, 1] · transposes_S32x128x2_S2x32x128_2_0_1) : (⟨S32x128x2, .f32⟩ : BufTy).Contents (Elt F) → (⟨S2x32x128, .f32⟩ : BufTy).Contents (Elt F))
abbrev opCell : HloOp τ sig (Elt F) := StableHlo.reshape main_v5 main_v6 (rfl : (.f32 : EltTy) = .f32) shapeCasts_S1x1_S_

variable (m : (ℓ : Loc nD τ sig) → Buf (Elt F) ℓ) (ρ : Dev nD → PrngReg)

def V0 : Vals F := fun d b => m (d, b)
def V1 : Vals F := fun d => (opFlat (F := F)).result (V0 m d)
/-- The table, the indices and the result's array as the gather finds them. -/
abbrev tab (d : Dev nD) : S4194304.Idx → Elt F .f32 := V1 m d main_v0
abbrev ind (d : Dev nD) : S32x128.Idx → Elt F .i32 := m ((SparseCore.T d : Thread nD τ).loc main_arg2)
abbrev out₀ (d : Dev nD) : S256x128.Idx → Elt F .f32 := m ((SparseCore.T d : Thread nD τ).loc main_v1)

def V2 : Vals F := fun d => Function.update (V1 m d) (main_v1 : DevRef τ sig) (gathered (tab m) (ind m) d)
def V3 : Vals F := fun d => (opRes (F := F)).result ((opBin (F := F)).result ((opPred (F := F)).result (V2 m d)))
def V4 : Vals F := Vloss (V3 m)
def Vend : Vals F := fun d => (opCell (F := F)).result (V4 m d)

theorem V1_ind (d : Dev nD) : V1 m d main_arg2 = ind m d :=
  StableHlo.reshape_result_ne (x := main_arg0) (y := main_v0) _ _ _ _ (V0 m d) (by decide)
theorem V1_out (d : Dev nD) : V1 m d main_v1 = out₀ m d :=
  StableHlo.reshape_result_ne (x := main_arg0) (y := main_v0) _ _ _ _ (V0 m d) (by decide)
theorem V2_out (d : Dev nD) : V2 m d main_v1 = gathered (tab m) (ind m) d := Function.update_self ..
theorem V2_ne (d : Dev nD) {b : Ref sig .tc} (h : b ≠ main_v1) : V2 m d b = V1 m d b :=
  Function.update_of_ne (fun e => h (Proc.devRef_injective _ e)) ..

/-! ## The three arrays of the gather, out of the host's buffers and back -/

/-- The host's other buffers. -/
abbrev others : Finset (DevRef τ sig) := (((ucRefs τ sig).erase main_v0).erase main_arg2).erase main_v1

omit [FloatOps F] in
theorem held_gather (d : Dev nD) (V : Valuation τ sig (Elt F)) :
    (held (SparseCore.T d : Thread nD τ) (ucRefs τ sig) V : sProp (MM F))
      = iprop((tLoc d ↦{fullShare} V main_v0) ∗ (xLoc d ↦{fullShare} V main_arg2) ∗ (oLoc d ↦{fullShare} V main_v1)
          ∗ held (SparseCore.T d : Thread nD τ) others V) := by
  unfold held others
  rw [SparseCore.bigSep_erase' (show (main_v0 : DevRef τ sig) ∈ ucRefs τ sig by decide),
    SparseCore.bigSep_erase' (show (main_arg2 : DevRef τ sig) ∈ (ucRefs τ sig).erase main_v0 by decide),
    SparseCore.bigSep_erase' (show (main_v1 : DevRef τ sig) ∈ ((ucRefs τ sig).erase main_v0).erase main_arg2 by decide)]

/-- Off its result the gather's step changes no buffer. -/
theorem others_V2 (d : Dev nD) : (held (SparseCore.T d : Thread nD τ) others (V1 m d) : sProp (MM F)) = held (SparseCore.T d : Thread nD τ) others (V2 m d) := by
  unfold held
  refine bigSep_congr fun b hb => ?_
  rw [show V2 m d b = V1 m d b from Function.update_of_ne (Finset.ne_of_mem_erase hb) ..]

theorem st_eq (d : Dev nD) : (bigSep Finset.univ fun c : Fin ((K (F := F)).nCore 0) => (P (tab m) (ind m) (out₀ m)).st 0 d c)
    = iprop((tLoc d ↦{fullShare} tab m d) ∗ (xLoc d ↦{fullShare} ind m d) ∗ oLoc d ↦{fullShare} out₀ m d) :=
  deal (tab m) (ind m) d (out₀ m)
theorem dn_eq (d : Dev nD) : (bigSep Finset.univ fun c : Fin ((K (F := F)).nCore 0) => (P (tab m) (ind m) (out₀ m)).dn 0 d c)
    = iprop((tLoc d ↦{fullShare} tab m d) ∗ (xLoc d ↦{fullShare} ind m d) ∗ oLoc d ↦{fullShare} gathered (tab m) (ind m) d) :=
  deal (tab m) (ind m) d (gathered (tab m) (ind m))

/-! ## The launch's ghost state -/

abbrev pins : Fin 1 → Pipeline.Cfg sig Λ₀ := Pipeline.pin (pcfgs (F := F)) adm

def u₀ : UU := (initOf (K (F := F)).hsCells (K (F := F)).hsToks,
  (initOf (Pipeline.cells (pins (F := F)) cellOf_inj) (Pipeline.launchToks (pins (F := F)) cellOf_inj), 1))

/-- What the loss kernel's pipeline takes of it on device `d`. -/
abbrev G (d : Dev nD) : sProp (MM F) :=
  iprop((bigSep Finset.univ fun p : Fin 1 => Pipeline.cellsGhost (pins (F := F)) EP p d) ∗ bigSep Finset.univ fun p : Fin 1 => Pipeline.toksInit (pins (F := F)) EP p d)

theorem hu₀ : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (tab m) (ind m) (out₀ m)).x q thr) := by
  have hx : (bigSep Finset.univ fun thr : Thread nD τ => bigSep Finset.univ fun q : Fin 1 => (P (tab m) (ind m) (out₀ m)).x q thr) = (iprop(emp) : sProp (MM F)) :=
    (bigSep_congr fun _ _ => bigSep_univ_of_subsingleton (0 : Fin 1)).trans (bigSep_emp_const _)
  rw [hx]
  unfold u₀
  iintro Hu
  ihave H := (ownU_pair (initOf (K (F := F)).hsCells (K (F := F)).hsToks) _) $$ Hu
  icases H with ⟨HH, HR⟩
  ihave H := (own_pair_emb (embR : Emb (UP × Counters) (MM F)) _ _) $$ HR
  icases H with ⟨HP, -⟩
  ihave HP := (show BI.own (((Emb.inl : Emb UP (UP × Counters)).trans (embR : Emb (UP × Counters) (MM F))) _) ⊢ BI.own ((EP : Emb UP (MM F)) _) from .rfl) $$ HP
  imod (Pipeline.fund_ghost (pins (F := F)) (EP : Emb UP (MM F)) cellOf_inj) $$ HP with ⟨Hc, Ht⟩
  imodintro
  isplitl [HH]; · iexact HH
  isplitl [Hc Ht]
  · unfold G
    rw [bigSep_sep']
    isplitl [Hc]; · iexact Hc
    iexact Ht
  iempintro

/-! ## @main -/

theorem hFlat : (opFlat (F := F)).bufs ⊆ ucRefs τ sig := show ({((main_arg0 : Ref sig .tc) : DevRef τ sig), ((main_v0 : Ref sig .tc) : DevRef τ sig)} : Finset (DevRef τ sig)) ⊆ ucRefs τ sig by decide
theorem hPred : (opPred (F := F)).bufs ⊆ ucRefs τ sig := show ({((main_v1 : Ref sig .tc) : DevRef τ sig), ((main_v2 : Ref sig .tc) : DevRef τ sig)} : Finset (DevRef τ sig)) ⊆ ucRefs τ sig by decide
theorem hBin : (opBin (F := F)).bufs ⊆ ucRefs τ sig := show ({((main_arg3 : Ref sig .tc) : DevRef τ sig), ((main_v3 : Ref sig .tc) : DevRef τ sig)} : Finset (DevRef τ sig)) ⊆ ucRefs τ sig by decide
theorem hRes : (opRes (F := F)).bufs ⊆ ucRefs τ sig := show ({((main_arg4 : Ref sig .tc) : DevRef τ sig), ((main_v4 : Ref sig .tc) : DevRef τ sig)} : Finset (DevRef τ sig)) ⊆ ucRefs τ sig by decide
theorem hCell : (opCell (F := F)).bufs ⊆ ucRefs τ sig := show ({((main_v5 : Ref sig .tc) : DevRef τ sig), ((main_v6 : Ref sig .tc) : DevRef τ sig)} : Finset (DevRef τ sig)) ⊆ ucRefs τ sig by decide

abbrev FIN (d : Dev nD) : sProp (MM F) := held (SparseCore.T d : Thread nD τ) (ucRefs τ sig) (Vend m d)

theorem tcSt_end (d : Dev nD) : (K (F := F)).tcSt (Name := ℕ) (U := UU) (Val := Elt F) EH d 1
    = iprop(idle F d ∗ atPos EH ((K (F := F)).doneCell d) 1 ∅ 0 ∗ reached EH ((K (F := F)).doneCell d) 1
      ∗ (bigSep Finset.univ fun c : Fin τ.nSC => reached EH ((K (F := F)).startCell d c) ((K (F := F)).sRank c 1))
      ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1))) := by
  unfold SparseCore.Cfg.tcSt
  rw [SparseCore.Cfg.Otc_end (K (F := F)) d (le_refl 1)]
  rfl

/-- The call as the pipelines' program spells it. -/
abbrev callLoss : Prog (TpuEff nD τ sig (Elt F) (ΛP (F := F)) .tc) PUnit := .op (.customCall (Pipeline.entry 0) ()) .ret

-- the region's rule, stated for any pipeline, is matched against this one's proof data
set_option backward.isDefEq.respectTransparency.types false in
theorem loss_inner (V : Vals F) (d : Dev nD) (Φ : PUnit → sProp (MM F)) :
    iprop(boundary (SparseCore.T d : Thread nD τ) ∗ unscopedBufs d (fun b => V d b) ∗ idle F d ∗ levAts (LP (F := F)) (lvP (F := F)) ∗ G d
        ∗ (iprop(boundary (SparseCore.T d : Thread nD τ) ∗ unscopedBufs d (fun b => Vloss V d b) ∗ idle F d) -∗ Φ ⟨⟩))
      ⊢ wp frame (wpE (D (F := F)) 𝒱 (SparseCore.T d) none) Set.univ (callLoss (F := F)) Φ := by
  have hc : (bigSep Finset.univ fun p : Fin 1 => Pipeline.cellsGhost (pins (F := F)) EP p d) ⊢ (Pipeline.cellsGhost (Pipeline.pin (pcfgs (F := F)) adm) EP 0 d : sProp (MM F)) :=
    Entails.of_eq (bigSep_univ_of_subsingleton (0 : Fin 1))
  have ht : (bigSep Finset.univ fun p : Fin 1 => Pipeline.toksInit (pins (F := F)) EP p d) ⊢ (Pipeline.toksInit (Pipeline.pin (pcfgs (F := F)) adm) EP 0 d : sProp (MM F)) :=
    Entails.of_eq (bigSep_univ_of_subsingleton (0 : Fin 1))
  have hreg := Pipeline.RegionSeg.wp (pcfgs (F := F)) adm (pdats V) (none : HIx 1) cellOf_inj EP defs₀ 𝒱₀ (LP (F := F)) (lvP (F := F)) (reg V) d none
    (fun _ h => nomatch h) Prog.ret Φ
  iintro ⟨Hb, Hu, Hi, Hl, ⟨Hc, Ht⟩, Hk⟩
  iapply hreg
  rw [show (reg V).pre d = iprop(unscopedBufs d (fun b => V d b) ∗ idle F d) from rfl,
    show (reg V).post d = iprop(unscopedBufs d (fun b => Vloss V d b) ∗ idle F d) from rfl]
  isplitl [Hk]
  · iintro ⟨Hb, Hu, Hi⟩
    rw [wp_ret]; imodintro
    iapply Hk
    isplitl [Hb]; · iexact Hb
    isplitl [Hu]; · iexact Hu
    iexact Hi
  isplitl [Hb]; · iexact Hb
  isplitl [Hu Hi]
  · isplitl [Hu]; · iexact Hu
    iexact Hi
  isplitl [Hl]; · iexact Hl
  isplitl [Hc]
  · iapply hc; iexact Hc
  iapply ht; iexact Ht

theorem call_eq : (Prog.lift (.customCall (SparseCore.inner (Pipeline.entry 0)) ()) : Prog (TpuEff nD τ sig (Elt F) (SparseCore.Sig (ΛP (F := F)) 1) .tc) PUnit)
    = SparseCore.liftProg (callLoss (F := F)) := rfl

/-- The loss kernel's call: from the host's buffers at `V` to them at `Vloss V`. -/
theorem loss_step (V : Vals F) (d : Dev nD) (Φ : PUnit → sProp (MM F)) :
    iprop(boundary (SparseCore.T d : Thread nD τ) ∗ unscopedBufs d (fun b => V d b) ∗ idle F d ∗ levAts (LP (F := F)) (lvP (F := F)) ∗ G d
        ∗ (iprop(boundary (SparseCore.T d : Thread nD τ) ∗ unscopedBufs d (fun b => Vloss V d b) ∗ idle F d) -∗ Φ ⟨⟩))
      ⊢ wp frame (wpE ((K (F := F)).defs (D (F := F))) 𝒱 (SparseCore.T d) none) Set.univ
          (Prog.lift (.customCall (SparseCore.inner (Pipeline.entry 0)) ())) Φ := by
  rw [call_eq]
  exact (loss_inner V d Φ).trans ((K (F := F)).wp_liftProg (D (F := F)) 𝒱 (SparseCore.T d) Set.univ none (callLoss (F := F)) Φ)

theorem hmain (κ : GSem nD τ sig → ℕ) (d : Dev nD) :
    iprop((K (F := F)).ctx EH (P (tab m) (ind m) (out₀ m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  rw [show (unscopedBufs d (fun b => m ((SparseCore.T d : Thread nD τ).loc b)) : sProp (MM F)) = held (SparseCore.T d : Thread nD τ) (ucRefs τ sig) (V0 m d)
    from Pipeline.unscopedBufs_held d (V0 m d)]
  iintro ⟨#Hctx, Hst, ⟨Hb, Hu, Hts, -⟩, HG⟩
  iapply (wp_hlo_within 𝒱 (SparseCore.T d) none Set.univ (op := opFlat) hFlat (V := V0 m d)) $$ [Hb Hu]
  · isplitl [Hb] <;> iassumption
  iintro ⟨Hb, Hu⟩
  rw [wp_ret]; imodintro
  ihave Hu := (show (held (SparseCore.T d : Thread nD τ) (ucRefs τ sig) ((opFlat (F := F)).result (V0 m d)) : sProp (MM F)) ⊢ _ from Entails.of_eq (held_gather d (V1 m d))) $$ Hu
  icases Hu with ⟨Ht, Hx, Ho, Hr⟩
  iapply ((K (F := F)).wp_run (D (F := F)) 𝒱 (EH := EH) (P := P (tab m) (ind m) (out₀ m)) κ d 0) $$ [Hst Ht Hx Ho Hb Hts Hr HG]
  isplitr; · iexact Hctx
  isplitl [Hst]; · iexact Hst
  isplitl [Ht Hx Ho]
  · iapply (Entails.of_eq (st_eq m d).symm)
    isplitl [Ht]; · iexact Ht
    isplitl [Hx]
    · iapply (Entails.of_eq (congrArg (fun v => (xLoc d ↦{fullShare} v : sProp (MM F))) (V1_ind m d))); iexact Hx
    iapply (Entails.of_eq (congrArg (fun v => (oLoc d ↦{fullShare} v : sProp (MM F))) (V1_out m d))); iexact Ho
  iintro ⟨Hst, Hdn⟩
  ihave Hdn := (Entails.of_eq (dn_eq m d)) $$ Hdn
  icases Hdn with ⟨Ht, Hx, Ho⟩
  ihave Hu := (Entails.of_eq (held_gather d (V2 m d)).symm) $$ [Ht Hx Ho Hr]
  · isplitl [Ht]
    · iapply (Entails.of_eq (congrArg (fun v => (tLoc d ↦{fullShare} v : sProp (MM F))) (V2_ne m d (b := main_v0) (by decide)).symm)); iexact Ht
    isplitl [Hx]
    · iapply (Entails.of_eq (congrArg (fun v => (xLoc d ↦{fullShare} v : sProp (MM F))) ((V2_ne m d (b := main_arg2) (by decide)).trans (V1_ind m d)).symm)); iexact Hx
    isplitl [Ho]
    · iapply (Entails.of_eq (congrArg (fun v => (oLoc d ↦{fullShare} v : sProp (MM F))) (V2_out m d).symm)); iexact Ho
    iapply (Entails.of_eq (others_V2 m d)); iexact Hr
  iapply (wp_hlo_within 𝒱 (SparseCore.T d) none Set.univ (op := opPred) hPred (V := V2 m d)) $$ [Hb Hu]
  · isplitl [Hb] <;> iassumption
  iintro ⟨Hb, Hu⟩
  rw [wp_ret]; imodintro
  iapply (wp_hlo_within 𝒱 (SparseCore.T d) none Set.univ (op := opBin) hBin) $$ [Hb Hu]
  · isplitl [Hb] <;> iassumption
  iintro ⟨Hb, Hu⟩
  rw [wp_ret]; imodintro
  iapply (wp_hlo_within 𝒱 (SparseCore.T d) none Set.univ (op := opRes) hRes) $$ [Hb Hu]
  · isplitl [Hb] <;> iassumption
  iintro ⟨Hb, Hu⟩
  rw [wp_ret]; imodintro
  ihave Hst := (show (K (F := F)).tcSt (Name := ℕ) (U := UU) (Val := Elt F) EH d ((0 : Fin 1).val + 1) ⊢ _ from Entails.of_eq (tcSt_end d)) $$ Hst
  icases Hst with ⟨Hi, Hst⟩
  ihave Hu := (show (held (SparseCore.T d : Thread nD τ) (ucRefs τ sig) ((opRes (F := F)).result ((opBin (F := F)).result ((opPred (F := F)).result (V2 m d)))) : sProp (MM F)) ⊢ unscopedBufs d (fun b => V3 m d b)
    from Entails.of_eq (Pipeline.unscopedBufs_held d (V3 m d)).symm) $$ Hu
  ihave Hl := (SparseCore.Cfg.ctx_levAts (K := K (F := F)) κ) $$ Hctx
  iapply (loss_step (V3 m) d) $$ [Hst Hi Hb Hu Hts HG Hl]
  isplitl [Hb]; · iexact Hb
  isplitl [Hu]; · iexact Hu
  isplitl [Hi]; · iexact Hi
  isplitl [Hl]; · iexact Hl
  isplitl [HG]; · iexact HG
  iintro ⟨Hb, Hu, Hi⟩
  ihave Hu := (show unscopedBufs d (fun b => Vloss (V3 m) d b) ⊢ (held (SparseCore.T d : Thread nD τ) (ucRefs τ sig) (V4 m d) : sProp (MM F))
    from Entails.of_eq (Pipeline.unscopedBufs_held d (V4 m d))) $$ Hu
  iapply (wp_hlo_within 𝒱 (SparseCore.T d) none Set.univ (op := opCell) hCell (V := V4 m d)) $$ [Hb Hu]
  · isplitl [Hb] <;> iassumption
  iintro ⟨Hb, Hu⟩
  rw [wp_ret]; imodintro
  imodintro
  isplitl [Hst Hi]
  · iapply (Entails.of_eq (tcSt_end d).symm)
    isplitl [Hi]; · iexact Hi
    iexact Hst
  isplitl [Hu]; · iexact Hu
  isplitl [Hb] <;> iassumption

/-! ## What the final memory is read to hold -/

def fq (d : Dev nD) (s' : Phys nD τ sig (Elt F)) : Prop := ∀ b ∈ ucRefs τ sig, s'.mem.mem (d, b) = Vend m d b

theorem hfin (d : Dev nD) (s' : Phys nD τ sig (Elt F)) : iprop(FIN m d ∗ SI s') ⊢ (⌜fq m d s'⌝ : sProp (MM F)) := by
  have one : ∀ b : {b // b ∈ ucRefs τ sig}, iprop(FIN m d ∗ SI s') ⊢ (⌜s'.mem.mem (d, b.1) = Vend m d b.1⌝ : sProp (MM F)) := fun b => by
    iintro ⟨Hu, HSI⟩
    ihave Hb := (show (held (SparseCore.T d : Thread nD τ) (ucRefs τ sig) (Vend m d) : sProp (MM F)) ⊢ ((d, b.1) ↦{fullShare} Vend m d b.1) from bigSep_elim (Φ := fun b : DevRef τ sig => (((SparseCore.T d : Thread nD τ).1, b) ↦{fullShare} Vend m d b : sProp (MM F))) b.2) $$ Hu
    ihave H := (SI_pointsTo_agree (st := s') (ℓ := (d, b.1)) (I := Finset.univ) (q := fullShare) (f := Vend m d b.1)) $$ [HSI Hb]
    · isplitl [HSI] <;> iassumption
    icases H with %h
    ipureintro; exact funext fun i => h i (Finset.mem_univ i)
  exact ((forall_intro one).trans pure_forall.2).trans (Laws.pure_mono fun h b hb => h ⟨b, hb⟩)

/-! ## The program's run -/

def QC : PUnit × MemSt nD τ sig (Elt F) → Prop := fun r => (∀ d : Dev nD, ∀ b ∈ ucRefs τ sig, r.2.mem (d, b) = Vend m d b) ∧ r.2.sem = fun _ => 0

theorem run_main [∀ e, Nonempty (Elt F e)] (hx : ∀ d i, BitVec.toNat (ind m d i) < 16384) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tab m) (ind m) (out₀ m)) (A := ∅) facts v₀
    (fun q hq => match q with | 0 => nomatch hq)
    (fun q _ => match q with | 0 => tileObl (tab m) (ind m) (out₀ m) facts hx)
    (fun q _ => match q with | 0 => SparseCore.Cfg.VecSplit.of_plain (vecSplit (tab m) (ind m) (out₀ m)))
    m ρ main (fun d => G d) (FIN m) (u₀ (F := F)) (sep_elim_left.trans (hu₀ m)) (hmain m ρ) (fq m) (hfin m) (QC m) (fun _ h hz => ⟨h, hz⟩)

/-! ## The arguments end as they began -/

theorem Vend_keep (d : Dev nD) {b : Ref sig .tc} (h0 : b ≠ main_v0) (h1 : b ≠ main_v1) (h2 : b ≠ main_v2) (h3 : b ≠ main_v3) (h4 : b ≠ main_v4)
    (h5 : b ≠ main_v5) (h6 : b ≠ main_v6) : Vend m d b = m (d, (b : DevRef τ sig)) := by
  unfold Vend V4
  rw [StableHlo.reshape_result_ne (x := main_v5) (y := main_v6) _ _ _ _ _ h6, Vloss_ne _ _ h5]
  unfold V3
  rw [StableHlo.unary_result_ne (x := main_arg4) (y := main_v4) _ _ _ _ h4, StableHlo.unary_result_ne (x := main_arg3) (y := main_v3) _ _ _ _ h3,
    StableHlo.reshape_result_ne (x := main_v1) (y := main_v2) _ _ _ _ _ h2, V2_ne m d h1]
  unfold V1
  rw [StableHlo.reshape_result_ne (x := main_arg0) (y := main_v0) _ _ _ _ _ h0]
  rfl

/-- A run's end, at the arguments. -/
theorem QC_args {r : PUnit × MemSt nD τ sig (Elt F)} (h : QC m r) (d : Dev nD) :
    r.2.mem (d, (main_arg0 : DevRef τ sig)) = m (d, (main_arg0 : DevRef τ sig)) ∧ r.2.mem (d, (main_arg1 : DevRef τ sig)) = m (d, (main_arg1 : DevRef τ sig))
      ∧ r.2.mem (d, (main_arg2 : DevRef τ sig)) = m (d, (main_arg2 : DevRef τ sig)) ∧ r.2.mem (d, (main_arg3 : DevRef τ sig)) = m (d, (main_arg3 : DevRef τ sig))
      ∧ r.2.mem (d, (main_arg4 : DevRef τ sig)) = m (d, (main_arg4 : DevRef τ sig)) :=
  ⟨(h.1 d _ (by decide)).trans (Vend_keep m d (b := main_arg0) (by decide) (by decide) (by decide) (by decide) (by decide) (by decide) (by decide)),
   (h.1 d _ (by decide)).trans (Vend_keep m d (b := main_arg1) (by decide) (by decide) (by decide) (by decide) (by decide) (by decide) (by decide)),
   (h.1 d _ (by decide)).trans (Vend_keep m d (b := main_arg2) (by decide) (by decide) (by decide) (by decide) (by decide) (by decide) (by decide)),
   (h.1 d _ (by decide)).trans (Vend_keep m d (b := main_arg3) (by decide) (by decide) (by decide) (by decide) (by decide) (by decide) (by decide)),
   (h.1 d _ (by decide)).trans (Vend_keep m d (b := main_arg4) (by decide) (by decide) (by decide) (by decide) (by decide) (by decide) (by decide))⟩

end Cert.Proof.Focal

end
-- ==== Proof.Pre.lean ====
/- What the precondition `drawn` says of the argument arrays: every index word names a pixel, every bin word is 0 or 1, and
   (read over the extended reals) every feature is finite. -/
module

public import proofs.«01_k».proof.Pre_drawn
public import proofs.«01_k».proof.Proof.Gen.Pre_drawn
public import Idealize.ShloMosaic.Lib.ReduceAll
public import Idealize.ShloMosaic.Lib.Affine
public import Idealize.ShloMosaic.Lib.StableHlo.Predicate
public import Idealize.ShloMosaic.PureOps.Ideal.Laws

@[expose] public section

noncomputable section

namespace Cert.Proof.Focal

open Idealize.ShloMosaic Cert.Pre_drawn

/-- A word at least zero and below `n`, both signed, is below `n` as a natural number. -/
theorem word_range {n : Nat} (hn : n < 2 ^ 31) {w : BitVec 32} (h0 : IntOp.cmpi .sge w 0#32 = 1#1)
    (h1 : IntOp.cmpi .slt w (BitVec.ofNat 32 n) = 1#1) : w.toNat < n := by
  have e0 : BitVec.sle 0#32 w = true := (StableHlo.Predicate.ofBool_eq_one_iff _).1 h0
  have e1 : BitVec.slt w (BitVec.ofNat 32 n) = true := (StableHlo.Predicate.ofBool_eq_one_iff _).1 h1
  rw [BitVec.sle_eq_decide, decide_eq_true_iff] at e0
  rw [BitVec.slt_eq_decide, decide_eq_true_iff, StableHlo.Predicate.toInt_ofNat_small n hn] at e1
  have z : (0#32).toInt = 0 := rfl
  rw [z] at e0
  rw [BitVec.toInt_eq_toNat_cond] at e0 e1
  split at e0 <;> split at e1 <;> omega

variable {F : FTy → Type} [FloatOps F] {a0 : FVec F S32x8x128x128 .f32} {a1 a2 : IVec S32x128 32} {a3 : IVec S32x128x2 32} {a4 : FVec F S32x128x2 .f32}

/-- The scalar shape has one index. -/
instance : Subsingleton S_.Idx := ⟨fun a b => funext fun k => k.elim0⟩

/-- The only index of a scalar. -/
abbrev o : S_.Idx := fun k => k.elim0

/-- The predicate, taken apart. -/
theorem drawn_parts (h : Cert.Pre_drawn.fn (F := F) a0 a1 a2 a3 a4 = fun _ => 1#1) :
    (∀ i, IntOp.cmpi .sge (a2 i) 0#32 = 1#1) ∧ (∀ i, IntOp.cmpi .slt (a2 i) 16384#32 = 1#1) ∧ (∀ i, IntOp.cmpi .sge (a3 i) 0#32 = 1#1)
      ∧ (∀ i, IntOp.cmpi .slt (a3 i) 2#32 = 1#1)
      ∧ ∀ i, FloatOps.cmpf .olt (FloatOps.hostAbsf (a0 i)) (FloatOps.ofBits .f32 0x7F800000#32) = 1#1 := by
  have h := congrFun h o
  unfold Cert.Pre_drawn.fn Cert.Pre_drawn.fn_part1 at h
  dsimp only at h
  obtain ⟨h, hf⟩ := IntOp.andi_eq_one.1 h
  obtain ⟨h, h3'⟩ := IntOp.andi_eq_one.1 h
  obtain ⟨h, h3⟩ := IntOp.andi_eq_one.1 h
  obtain ⟨h2, h2'⟩ := IntOp.andi_eq_one.1 h
  exact ⟨fun i => Host.reduce_andi_all _ _ _ _ _ h2 i, fun i => Host.reduce_andi_all _ _ _ _ _ h2' i, fun i => Host.reduce_andi_all _ _ _ _ _ h3 i,
    fun i => Host.reduce_andi_all _ _ _ _ _ h3' i, fun i => Host.reduce_andi_all _ _ _ _ _ hf i⟩

/-- Every index word names a pixel. -/
theorem drawn_index (h : Cert.Pre_drawn.fn (F := F) a0 a1 a2 a3 a4 = fun _ => 1#1) (i : S32x128.Idx) : (a2 i).toNat < 16384 :=
  word_range (by norm_num) ((drawn_parts h).1 i) ((drawn_parts h).2.1 i)

/-- Every bin word is 0 or 1. -/
theorem drawn_bin (h : Cert.Pre_drawn.fn (F := F) a0 a1 a2 a3 a4 = fun _ => 1#1) (i : S32x128x2.Idx) : a3 i = 0#32 ∨ a3 i = 1#32 := by
  have e := word_range (n := 2) (by norm_num) ((drawn_parts h).2.2.1 i) ((drawn_parts h).2.2.2.1 i)
  have : (a3 i).toNat = 0 ∨ (a3 i).toNat = 1 := by omega
  exact this.imp (fun e => BitVec.eq_of_toNat_eq e) fun e => BitVec.eq_of_toNat_eq e

/-- Over the extended reals, every feature is finite. -/
theorem drawn_finite {a0 : FVec Ideal S32x8x128x128 .f32} {a4 : FVec Ideal S32x128x2 .f32}
    (h : Cert.Pre_drawn.fn (F := Ideal) a0 a1 a2 a3 a4 = fun _ => 1#1) (i : S32x8x128x128.Idx) : a0 i ≠ (⊥ : EReal) ∧ a0 i ≠ (⊤ : EReal) := by
  have e := (drawn_parts h).2.2.2.2 i
  rw [Ideal.hostAbsf_def, Ideal.absf_def] at e
  have e' : max (a0 i : EReal) (-(a0 i)) < (⊤ : EReal) := by
    have := (StableHlo.Predicate.ofBool_eq_one_iff _).1 e
    have hT : (Ideal.ofBits .f32 0x7F800000#32 : EReal) = ⊤ := EReal.toENNReal_eq_top_iff.mp rfl
    simpa [Ideal.cmp, hT] using this
  constructor
  · intro hb; rw [hb] at e'; simp at e'
  · intro hb; rw [hb] at e'; simp at e'

end Cert.Proof.Focal

end
-- ==== Proof.Same.lean ====
/- The program as written and its ideal reading are one text: their tables of bodies are equal, so a run of the one is a run of the other. -/
module

public import proofs.«01_k».proof.Proof.Gen.Kernel
public import proofs.«01_k».proof.Proof.Gen.KernelIdeal

@[expose] public section

noncomputable section

namespace Cert.Proof.Focal

open Idealize.ShloMosaic Idealize.SL.Sem

local instance : Cert.Kernel.Facts := Cert.Kernel.Gen.facts
local instance : Cert.KernelIdeal.Facts := Cert.KernelIdeal.Gen.facts

variable {F : FTy → Type} [FloatOps F]

/-- The two programs' tables of kernel bodies are one table. -/
theorem bodies_eq : Cert.Kernel.defs₀ (F := F) = Cert.KernelIdeal.defs₀ (F := F) := by
  funext p
  cases p with
  | tc => funext ℓ; exact (match ℓ with | 0 => rfl | 1 => rfl)
  | scScalar c => funext ℓ; exact (match ℓ with | 0 => rfl | 1 => rfl)
  | scVector c s => funext ℓ; exact (match ℓ with | 0 => rfl | 1 => rfl)

/-- With the regions' and the launches' entries added, too. -/
theorem defs_eq : Cert.Kernel.defs (F := F) = Cert.KernelIdeal.defs (F := F) :=
  congrArg (fun x => Cert.KernelIdeal.sc.defs (Pipeline.defs Cert.KernelIdeal.pcfgs x)) bodies_eq

/-- @main is one text, too. -/
theorem main_eq : Cert.Kernel.main (F := F) = Cert.KernelIdeal.main (F := F) := rfl

/-- So are the launches of the SparseCore's call. -/
theorem sc_eq : Cert.Kernel.sc (F := F) = Cert.KernelIdeal.sc (F := F) := rfl

/-- So the two programs run the same threads. -/
theorem threads_eq : (Cert.Kernel.sc (F := F)).threads (Cert.Kernel.main (F := F)) = (Cert.KernelIdeal.sc (F := F)).threads (Cert.KernelIdeal.main (F := F)) :=
  (congrArg (fun x => (Cert.Kernel.sc (F := F)).threads x) main_eq).trans
    (congrArg (fun x => SparseCore.Cfg.threads x (Cert.KernelIdeal.main (F := F))) sc_eq)

/-- A run of one table and one set of threads is a run of equal ones. -/
theorem run_of_eq {nD : Nat} {τ : Topo} {sig : RefSig} {Val : EltTy → Type} {Λ : Labels} {D D' : Defs nD τ sig Val Λ}
    {p p' : (c : Thread nD τ) → Prog (TpuEff nD τ sig Val Λ c.2) PUnit} (e : D = D') (e' : p = p') {s : MemSt nD τ sig Val}
    {Q : PUnit × MemSt nD τ sig Val → Prop} (h : θ_run D' p' s Q) : θ_run D p s Q := by
  subst e e'; exact h

end Cert.Proof.Focal

end
-- ==== Proof.Equation.lean ====
/- The mathematics of the loss over the extended reals, and the equation between the two ways of adding it up: the kernel divides
   one sum of two losses by one count, the reference divides each loss by it; the kernel takes the larger logit out of the
   exponentials, the reference does not. -/
module

public import Idealize.ShloMosaic.PureOps.Ideal.Laws
public import Idealize.ShloMosaic.Lib.Pointwise

@[expose] public section

noncomputable section

namespace Cert.Proof.Focal

open Idealize.ShloMosaic

/-- One number for each of 32 images and 128 objects. -/
abbrev Field : Type := Fin 32 → Fin 128 → EReal

/-- Its sum. -/
def total (f : Field) : EReal := ∑ a, ∑ b, f a b

/-- One half, as the programs write it. -/
def half : EReal := Ideal.ofBits .f32 0x3F000000#32

/-- The absolute value. -/
abbrev absE (d : EReal) : EReal := FloatOps.absf (F := Ideal) (φ := .f32) d

/-- Smooth L1 of a difference. -/
def smooth (d : EReal) : EReal := if absE d < 1 then half * d * d else absE d - half

/-- The logit that a bin word chooses. -/
def pick (t : BitVec 32) (x y : EReal) : EReal := Scalar.select (IntOp.cmpi .eq t 0#32) x y

/-- Cross entropy of two logits. -/
def ce (x y : EReal) (t : BitVec 32) : EReal := Ideal.log (Ideal.exp x + Ideal.exp y) - pick t x y

/-- The same, the larger logit taken out of the exponentials. -/
def ceShift (x y : EReal) (t : BitVec 32) : EReal := max x y + Ideal.log (Ideal.exp (x - max x y) + Ideal.exp (y - max x y)) - pick t x y

/-- 1 where a bin word is not zero. -/
def flag (t : BitVec 32) : EReal := if t = 0#32 then 0 else 1

/-- A sum over a count, zero where the count is zero. -/
def over (s w : EReal) : EReal := if 0 < w then Ideal.div s (max w 1) else 0

/-- The mean of `f` weighted by `w`. -/
def wmean (f w : Field) : EReal := over (total fun a b => f a b * w a b) (total w)

/-- The loss as the reference adds it up: features `P`, mask `M`, bin words `T`, angles `A`. -/
def lossSpec (P : Fin 8 → Field) (M : Field) (T : Fin 2 → Fin 32 → Fin 128 → BitVec 32) (A : Fin 2 → Field) : EReal :=
  wmean (fun a b => ce (P 0 a b) (P 1 a b) (T 0 a b)) M + wmean (fun a b => ce (P 4 a b) (P 5 a b) (T 1 a b)) M
    + (wmean (fun a b => smooth (P 2 a b - Ideal.sin (A 0 a b))) (fun a b => flag (T 0 a b))
      + wmean (fun a b => smooth (P 3 a b - Ideal.cos (A 0 a b))) (fun a b => flag (T 0 a b))
      + wmean (fun a b => smooth (P 6 a b - Ideal.sin (A 1 a b))) (fun a b => flag (T 1 a b))
      + wmean (fun a b => smooth (P 7 a b - Ideal.cos (A 1 a b))) (fun a b => flag (T 1 a b)))

/-- The loss as the kernel adds it up. -/
def lossKern (P : Fin 8 → Field) (M : Field) (T : Fin 2 → Fin 32 → Fin 128 → BitVec 32) (A : Fin 2 → Field) : EReal :=
  over (total (fun a b => ceShift (P 0 a b) (P 1 a b) (T 0 a b) * M a b) + total (fun a b => ceShift (P 4 a b) (P 5 a b) (T 1 a b) * M a b)) (total M)
    + (over (total fun a b => (smooth (P 2 a b - Ideal.sin (A 0 a b)) + smooth (P 3 a b - Ideal.cos (A 0 a b))) * flag (T 0 a b)) (total fun a b => flag (T 0 a b))
      + over (total fun a b => (smooth (P 6 a b - Ideal.sin (A 1 a b)) + smooth (P 7 a b - Ideal.cos (A 1 a b))) * flag (T 1 a b)) (total fun a b => flag (T 1 a b)))

/-- Dividing by a number at least 1 distributes over a sum. -/
theorem div_add (x y w : EReal) (hw : 1 ≤ w) : Ideal.div (x + y) w = Ideal.div x w + Ideal.div y w := by
  have hp : (0 : EReal) < w := lt_of_lt_of_le zero_lt_one hw
  unfold Ideal.div
  rw [if_neg hp.ne', if_neg hp.ne', if_neg hp.ne']
  refine EReal.right_distrib_of_nonneg_of_ne_top (EReal.inv_nonneg_of_nonneg hp.le) (fun e => ?_) _ _
  induction w with
  | bot => exact absurd hp (by simp)
  | top => simp at e
  | coe r => rw [← EReal.coe_inv] at e; exact EReal.coe_ne_top _ e

theorem over_add (x y w : EReal) : over (x + y) w = over x w + over y w := by
  unfold over
  split
  · exact div_add _ _ _ (le_max_right _ _)
  · simp

/-- Sums of fields add up. -/
theorem total_add (f g : Field) : total (fun a b => f a b + g a b) = total f + total g := by
  unfold total
  rw [← Finset.sum_add_distrib]
  exact Finset.sum_congr rfl fun a _ => Finset.sum_add_distrib

/-- A sum weighted by a bin's indicator splits. -/
theorem add_mul_flag (x y : EReal) (t : BitVec 32) : (x + y) * flag t = x * flag t + y * flag t := by
  unfold flag; split <;> simp

/-- Two weighted means by one indicator are one quotient. -/
theorem over_pair (f g : Field) (t : Fin 32 → Fin 128 → BitVec 32) :
    over (total fun a b => (f a b + g a b) * flag (t a b)) (total fun a b => flag (t a b))
      = wmean f (fun a b => flag (t a b)) + wmean g (fun a b => flag (t a b)) := by
  unfold wmean
  rw [← over_add, ← total_add]
  simp only [add_mul_flag]

/-- Taking the larger of two real logits out of the exponentials changes nothing. -/
theorem lse_shift (x y : ℝ) : max (x : EReal) y + Ideal.log (Ideal.exp ((x : EReal) - max (x : EReal) y) + Ideal.exp ((y : EReal) - max (x : EReal) y))
    = Ideal.log (Ideal.exp (x : EReal) + Ideal.exp (y : EReal)) := by
  rw [show max (x : EReal) y = ((max x y : ℝ) : EReal) from (EReal.coe_strictMono.monotone.map_max).symm]
  generalize max x y = m
  rw [← EReal.coe_sub, ← EReal.coe_sub]
  show (m : EReal) + Ideal.log ((Real.exp (x - m) : EReal) + (Real.exp (y - m) : EReal)) = Ideal.log ((Real.exp x : EReal) + (Real.exp y : EReal))
  rw [← EReal.coe_add, ← EReal.coe_add]
  have h1 : 0 < Real.exp (x - m) + Real.exp (y - m) := by positivity
  have h2 : 0 < Real.exp x + Real.exp y := by positivity
  show (m : EReal) + (if Real.exp (x - m) + Real.exp (y - m) ≤ 0 then ⊥ else (Real.log (Real.exp (x - m) + Real.exp (y - m)) : EReal))
    = if Real.exp x + Real.exp y ≤ 0 then ⊥ else (Real.log (Real.exp x + Real.exp y) : EReal)
  rw [if_neg h1.not_ge, if_neg h2.not_ge, ← EReal.coe_add]
  congr 1
  have e : Real.exp x + Real.exp y = Real.exp m * (Real.exp (x - m) + Real.exp (y - m)) := by
    rw [mul_add, ← Real.exp_add, ← Real.exp_add]; congr 2 <;> ring
  rw [e, Real.log_mul (Real.exp_pos m).ne' h1.ne', Real.log_exp]

theorem ceShift_eq {x y : EReal} (hx : x ≠ ⊥ ∧ x ≠ ⊤) (hy : y ≠ ⊥ ∧ y ≠ ⊤) (t : BitVec 32) : ceShift x y t = ce x y t := by
  lift x to ℝ using ⟨hx.2, hx.1⟩
  lift y to ℝ using ⟨hy.2, hy.1⟩
  unfold ceShift ce
  rw [lse_shift]

/-- The two ways of adding up the loss agree where the features are finite. -/
theorem lossKern_eq (P : Fin 8 → Field) (M : Field) (T : Fin 2 → Fin 32 → Fin 128 → BitVec 32) (A : Fin 2 → Field)
    (hP : ∀ c a b, P c a b ≠ ⊥ ∧ P c a b ≠ ⊤) : lossKern P M T A = lossSpec P M T A := by
  unfold lossKern lossSpec
  rw [over_add, over_pair, over_pair]
  simp only [fun c c' t a b => ceShift_eq (hP c a b) (hP c' a b) t]
  rw [← add_assoc (wmean _ _ + wmean _ _) (wmean _ _) (wmean _ _)]
  rfl

/-! ## The loss's operands, from the five arguments -/

/-- Channel `c` of the feature map of image `a`, at the pixel that the index of object `b` names. -/
def feat (x : (⟨4, ![32, 8, 128, 128]⟩ : Shape).Idx → EReal) (ix : (⟨2, ![32, 128]⟩ : Shape).Idx → BitVec 32) : Fin 8 → Field := fun c a b =>
  x (ix4 a c ⟨(ix (ix2 a b)).toNat / 128 % 128, Nat.mod_lt _ (by decide)⟩ ⟨(ix (ix2 a b)).toNat % 128, Nat.mod_lt _ (by decide)⟩)

/-- The mask's words as numbers. -/
def maskOf (k : (⟨2, ![32, 128]⟩ : Shape).Idx → BitVec 32) : Field := fun a b => FloatOps.sitofp (F := Ideal) .f32 (k (ix2 a b))

/-- The two bin words of an object, and its two angles. -/
def binOf (t : (⟨3, ![32, 128, 2]⟩ : Shape).Idx → BitVec 32) : Fin 2 → Fin 32 → Fin 128 → BitVec 32 := fun c a b => t (ix3 a b c)
def angOf (t : (⟨3, ![32, 128, 2]⟩ : Shape).Idx → EReal) : Fin 2 → Field := fun c a b => t (ix3 a b c)

end Cert.Proof.Focal

end
-- ==== Proof.LossValue.lean ====
/- The loss kernel's scalar, read off its four operands over the extended reals. -/
module

public import proofs.«01_k».proof.Proof.Region
public import proofs.«01_k».proof.Proof.Equation
public import Idealize.ShloMosaic.Lib.Pointwise
public import Idealize.ShloMosaic.Lib.Pipeline.ValueKit

@[expose] public section

set_option maxRecDepth 20000

noncomputable section

namespace Cert.Proof.Focal

open Cert.KernelIdeal Cert.KernelIdeal.Gen
open Idealize.ShloMosaic Idealize.ShloMosaic.TcCoe

/-- The programs' indicator of a nonzero word. -/
theorem flag_eq (t : BitVec 32) : FloatOps.sitofp (F := Ideal) .f32 (BitVec.setWidth 32 (IntOp.cmpi .ne t 0#32)) = flag t := by
  unfold flag
  by_cases h : t = 0#32
  · subst h; rw [if_pos rfl]
    show (((BitVec.setWidth 32 (IntOp.cmpi .ne 0#32 0#32)).toInt : ℝ) : EReal) = 0
    rw [show (BitVec.setWidth 32 (IntOp.cmpi .ne 0#32 0#32)).toInt = 0 by decide]; simp
  · rw [if_neg h]
    have : IntOp.cmpi .ne t 0#32 = 1#1 := by simp [IntOp.cmpi, show (t != 0#32) = true from bne_iff_ne.mpr h]
    rw [this]
    show (((BitVec.setWidth 32 (1#1)).toInt : ℝ) : EReal) = 1
    rw [show (BitVec.setWidth 32 (1#1)).toInt = 1 by decide]; simp

/-- The payload of the two cross entropies. -/
theorem pay15_eq (v1 v3 v5 v11 v13 : FVec Ideal S32x128 .f32) (v19 v21 : IVec S32x128 32) : k1_pay15 (F := Ideal) v1 v3 v5 v11 v13 v19 v21
    = over (total (fun a b => ceShift (v3 (ix2 a b)) (v5 (ix2 a b)) (v19 (ix2 a b)) * v1 (ix2 a b))
        + total (fun a b => ceShift (v11 (ix2 a b)) (v13 (ix2 a b)) (v21 (ix2 a b)) * v1 (ix2 a b))) (total fun a b => v1 (ix2 a b)) := by
  pointwise [k1_pay15]
  unfold over total ceShift pick
  rfl

/-- The payload of the first bin's residuals. -/
theorem pay18_eq (v7 v9 v23 v72 : FVec Ideal S32x128 .f32) : k1_pay18 (F := Ideal) v7 v9 v23 v72
    = total fun a b => (smooth (v7 (ix2 a b) - Ideal.sin (v23 (ix2 a b))) + smooth (v9 (ix2 a b) - Ideal.cos (v23 (ix2 a b)))) * v72 (ix2 a b) := by
  pointwise [k1_pay18]
  unfold total smooth
  rfl

theorem pay1_eq (v68 : EReal) (v15 v17 v25 v72 v76 : FVec Ideal S32x128 .f32) (v104 : EReal) :
    k1_pay1 (F := Ideal) v68 v72 v76 v104 (k1_pay19 v15 v25) (k1_pay20 v17 v25) (k1_pay21 v17 v25) (k1_pay22 v17 v25)
    = v68 + (over v104 (total fun a b => v72 (ix2 a b))
      + over (total fun a b => (smooth (v15 (ix2 a b) - Ideal.sin (v25 (ix2 a b))) + smooth (v17 (ix2 a b) - Ideal.cos (v25 (ix2 a b)))) * v76 (ix2 a b))
          (total fun a b => v76 (ix2 a b))) := by
  pointwise [k1_pay1, k1_pay19, k1_pay20, k1_pay21, k1_pay22]
  unfold total over smooth
  rfl

theorem pay16_eq (v19 : IVec S32x128 32) (a : Fin 32) (b : Fin 128) : k1_pay16 (F := Ideal) v19 (ix2 a b) = flag (v19 (ix2 a b)) := by
  pointwise [k1_pay16]
  exact flag_eq _

theorem pay17_eq (v19 : IVec S32x128 32) (a : Fin 32) (b : Fin 128) : k1_pay17 (F := Ideal) v19 (ix2 a b) = flag (v19 (ix2 a b)) := by
  pointwise [k1_pay17]
  exact flag_eq _

/-- Payload 3: channel 0 of its operand. -/
theorem pay3_at (x : Vec Ideal S1x32x128 .f32) (a : Fin 32) (b : Fin 128) : k1_pay3 (F := Ideal) x (ix2 a b) = x (ix3 0 a b) := by
  pointwise [k1_pay3]

/-- Payload 4: channel 1 of its operand. -/
theorem pay4_at (x : Vec Ideal S1x32x128 .f32) (a : Fin 32) (b : Fin 128) : k1_pay4 (F := Ideal) x (ix2 a b) = x (ix3 0 a b) := by
  pointwise [k1_pay4]

/-- Payload 5: channel 2 of its operand. -/
theorem pay5_at (x : Vec Ideal S1x32x128 .f32) (a : Fin 32) (b : Fin 128) : k1_pay5 (F := Ideal) x (ix2 a b) = x (ix3 0 a b) := by
  pointwise [k1_pay5]

/-- Payload 6: channel 3 of its operand. -/
theorem pay6_at (x : Vec Ideal S1x32x128 .f32) (a : Fin 32) (b : Fin 128) : k1_pay6 (F := Ideal) x (ix2 a b) = x (ix3 0 a b) := by
  pointwise [k1_pay6]

/-- Payload 7: channel 4 of its operand. -/
theorem pay7_at (x : Vec Ideal S1x32x128 .f32) (a : Fin 32) (b : Fin 128) : k1_pay7 (F := Ideal) x (ix2 a b) = x (ix3 0 a b) := by
  pointwise [k1_pay7]

/-- Payload 8: channel 5 of its operand. -/
theorem pay8_at (x : Vec Ideal S1x32x128 .f32) (a : Fin 32) (b : Fin 128) : k1_pay8 (F := Ideal) x (ix2 a b) = x (ix3 0 a b) := by
  pointwise [k1_pay8]

/-- Payload 9: channel 6 of its operand. -/
theorem pay9_at (x : Vec Ideal S1x32x128 .f32) (a : Fin 32) (b : Fin 128) : k1_pay9 (F := Ideal) x (ix2 a b) = x (ix3 0 a b) := by
  pointwise [k1_pay9]

/-- Payload 10: channel 7 of its operand. -/
theorem pay10_at (x : Vec Ideal S1x32x128 .f32) (a : Fin 32) (b : Fin 128) : k1_pay10 (F := Ideal) x (ix2 a b) = x (ix3 0 a b) := by
  pointwise [k1_pay10]

/-- Payload 11: channel 0 of its operand. -/
theorem pay11_at (x : Vec Ideal S1x32x128 .i32) (a : Fin 32) (b : Fin 128) : k1_pay11 (F := Ideal) x (ix2 a b) = x (ix3 0 a b) := by
  pointwise [k1_pay11]

/-- Payload 12: channel 1 of its operand. -/
theorem pay12_at (x : Vec Ideal S1x32x128 .i32) (a : Fin 32) (b : Fin 128) : k1_pay12 (F := Ideal) x (ix2 a b) = x (ix3 0 a b) := by
  pointwise [k1_pay12]

/-- Payload 13: channel 0 of its operand. -/
theorem pay13_at (x : Vec Ideal S1x32x128 .f32) (a : Fin 32) (b : Fin 128) : k1_pay13 (F := Ideal) x (ix2 a b) = x (ix3 0 a b) := by
  pointwise [k1_pay13]

/-- Payload 14: channel 1 of its operand. -/
theorem pay14_at (x : Vec Ideal S1x32x128 .f32) (a : Fin 32) (b : Fin 128) : k1_pay14 (F := Ideal) x (ix2 a b) = x (ix3 0 a b) := by
  pointwise [k1_pay14]

variable (V : Vals Ideal)

theorem blk0_at (d : Dev nD) (c : Fin 8) (a : Fin 32) (b : Fin 128) : blk0 V d (ix3 c a b) = V d main_v2 (ix3 c a b) := by
  dsimp only [blk0]
  refine (View.read_apply ..).trans (congrArg (V d main_v2) ?_)
  blk_ext
  all_goals exact (Nat.zero_mul _).symm ▸ Nat.zero_add _

/-- A load of channel `c` from the operand's staging buffer. -/
theorem ld0 (f : S8x32x128.Idx → Elt Ideal .f32) (c : ℕ) (h : c < 8) (inb : ∀ x, (![c, 0, 0] : Fin 3 → ℕ) x + S1x32x128.size x ≤ S8x32x128.size x) (a : Fin 32) (b : Fin 128) :
    View.readAt (s := S8x32x128) (e := .f32) (Elt Ideal) (st1_0 t1_0).view (Rect.unit (s := S8x32x128) ![c, 0, 0] S1x32x128.size inb).toLoadRect f (ix3 0 a b)
      = f (ix3 ⟨c, h⟩ a b) := by
  rw [View.readAt_apply]
  refine congrArg f ?_
  funext x
  refine Fin.ext ?_
  fin_cases x <;> simp [LoadRect.idx]

theorem blk2_at (d : Dev nD) (c : Fin 2) (a : Fin 32) (b : Fin 128) : blk2 V d (ix3 c a b) = V d main_v3 (ix3 c a b) := by
  dsimp only [blk2]
  refine (View.read_apply ..).trans (congrArg (V d main_v3) ?_)
  blk_ext
  all_goals exact (Nat.zero_mul _).symm ▸ Nat.zero_add _

/-- A load of channel `c` from the operand's staging buffer. -/
theorem ld2 (f : S2x32x128.Idx → Elt Ideal .i32) (c : ℕ) (h : c < 2) (inb : ∀ x, (![c, 0, 0] : Fin 3 → ℕ) x + S1x32x128.size x ≤ S2x32x128.size x) (a : Fin 32) (b : Fin 128) :
    View.readAt (s := S2x32x128) (e := .i32) (Elt Ideal) (st1_2 t1_0).view (Rect.unit (s := S2x32x128) ![c, 0, 0] S1x32x128.size inb).toLoadRect f (ix3 0 a b)
      = f (ix3 ⟨c, h⟩ a b) := by
  rw [View.readAt_apply]
  refine congrArg f ?_
  funext x
  refine Fin.ext ?_
  fin_cases x <;> simp [LoadRect.idx]

theorem blk3_at (d : Dev nD) (c : Fin 2) (a : Fin 32) (b : Fin 128) : blk3 V d (ix3 c a b) = V d main_v4 (ix3 c a b) := by
  dsimp only [blk3]
  refine (View.read_apply ..).trans (congrArg (V d main_v4) ?_)
  blk_ext
  all_goals exact (Nat.zero_mul _).symm ▸ Nat.zero_add _

/-- A load of channel `c` from the operand's staging buffer. -/
theorem ld3 (f : S2x32x128.Idx → Elt Ideal .f32) (c : ℕ) (h : c < 2) (inb : ∀ x, (![c, 0, 0] : Fin 3 → ℕ) x + S1x32x128.size x ≤ S2x32x128.size x) (a : Fin 32) (b : Fin 128) :
    View.readAt (s := S2x32x128) (e := .f32) (Elt Ideal) (st1_3 t1_0).view (Rect.unit (s := S2x32x128) ![c, 0, 0] S1x32x128.size inb).toLoadRect f (ix3 0 a b)
      = f (ix3 ⟨c, h⟩ a b) := by
  rw [View.readAt_apply]
  refine congrArg f ?_
  funext x
  refine Fin.ext ?_
  fin_cases x <;> simp [LoadRect.idx]

theorem blk1_at (d : Dev nD) (a : Fin 32) (b : Fin 128) : blk1 V d (ix2 a b) = V d main_arg1 (ix2 a b) := by
  dsimp only [blk1]
  refine (View.read_apply ..).trans (congrArg (V d main_arg1) ?_)
  blk_ext
  all_goals exact (Nat.zero_mul _).symm ▸ Nat.zero_add _

/-- A load of the mask from its staging buffer. -/
theorem ld1 (f : S32x128.Idx → Elt Ideal .i32) (inb : ∀ x, (![0, 0] : Fin 2 → ℕ) x + S32x128.size x ≤ S32x128.size x) (a : Fin 32) (b : Fin 128) :
    View.readAt (s := S32x128) (e := .i32) (Elt Ideal) (st1_1 t1_0).view (Rect.unit (s := S32x128) ![0, 0] S32x128.size inb).toLoadRect f (ix2 a b) = f (ix2 a b) := by
  rw [View.readAt_apply]
  refine congrArg f ?_
  funext x
  refine Fin.ext ?_
  fin_cases x <;> simp [LoadRect.idx]

theorem pay2_at (x : Vec Ideal S32x128 .i32) (a : Fin 32) (b : Fin 128) : k1_pay2 (F := Ideal) x (ix2 a b) = FloatOps.sitofp (F := Ideal) .f32 (x (ix2 a b)) := by
  pointwise [k1_pay2]

theorem cell_eq (j : S1x1.Idx) : j = (Rect.unit (s := S1x1) ![0, 0] S1x1.size inb_S1x1_S1x1_0_0).emb (ix2 0 0) := by
  funext a
  fin_cases a <;> exact Subsingleton.elim (α := Fin 1) _ _

/-- The cell's buffer after the one store reads what was stored. -/
theorem cell_read (f : (View.whole cc1_stg4_0).ty.Contents (Elt Ideal)) (x : Elt Ideal .f32) (j : S1x1.Idx) :
    (View.whole cc1_stg4_0).writes (Elt Ideal) f [⟨Rect.unit (s := S1x1) ![0, 0] S1x1.size inb_S1x1_S1x1_0_0, fun _ => x⟩] j = x := by
  rw [cell_eq j]
  exact View.read_writes_cons_emb (Val := Elt Ideal) (View.whole cc1_stg4_0) f (Rect.unit (s := S1x1) ![0, 0] S1x1.size inb_S1x1_S1x1_0_0) (fun _ => x) [] (ix2 0 0)

/-- The features, mask, bin words and angles that the operands' arrays hold. -/
def opP (d : Dev nD) : Fin 8 → Field := fun c a b => (V d main_v2 : S8x32x128.Idx → EReal) (ix3 c a b)
def opM (d : Dev nD) : Field := fun a b => FloatOps.sitofp (F := Ideal) .f32 ((V d main_arg1 : S32x128.Idx → BitVec 32) (ix2 a b))
def opT (d : Dev nD) : Fin 2 → Fin 32 → Fin 128 → BitVec 32 := fun c a b => (V d main_v3 : S2x32x128.Idx → BitVec 32) (ix3 c a b)
def opA (d : Dev nD) : Fin 2 → Field := fun c a b => (V d main_v4 : S2x32x128.Idx → EReal) (ix3 c a b)

/-- The stored payload, from its thirteen operands read at every image and object. -/
theorem pays_eq (P : Fin 8 → Field) (M : Field) (T : Fin 2 → Fin 32 → Fin 128 → BitVec 32) (A : Fin 2 → Field)
    {m p0 p1 p2 p3 p4 p5 p6 p7 : FVec Ideal S32x128 .f32} {t0 t1 : IVec S32x128 32} {a0 a1 : FVec Ideal S32x128 .f32}
    (hm : ∀ a b, m (ix2 a b) = M a b) (h0 : ∀ a b, p0 (ix2 a b) = P 0 a b) (h1 : ∀ a b, p1 (ix2 a b) = P 1 a b) (h2 : ∀ a b, p2 (ix2 a b) = P 2 a b)
    (h3 : ∀ a b, p3 (ix2 a b) = P 3 a b) (h4 : ∀ a b, p4 (ix2 a b) = P 4 a b) (h5 : ∀ a b, p5 (ix2 a b) = P 5 a b) (h6 : ∀ a b, p6 (ix2 a b) = P 6 a b)
    (h7 : ∀ a b, p7 (ix2 a b) = P 7 a b) (ht0 : ∀ a b, t0 (ix2 a b) = T 0 a b) (ht1 : ∀ a b, t1 (ix2 a b) = T 1 a b)
    (ha0 : ∀ a b, a0 (ix2 a b) = A 0 a b) (ha1 : ∀ a b, a1 (ix2 a b) = A 1 a b) :
    k1_pay1 (F := Ideal) (k1_pay15 m p0 p1 p4 p5 t0 t1) (k1_pay16 t0) (k1_pay17 t1) (k1_pay18 p2 p3 a0 (k1_pay16 t0)) (k1_pay19 p6 a1) (k1_pay20 p7 a1)
      (k1_pay21 p7 a1) (k1_pay22 p7 a1) = lossKern P M T A := by
  rw [pay1_eq, pay15_eq, pay18_eq]
  simp only [pay16_eq, pay17_eq, hm, h0, h1, h2, h3, h4, h5, h6, h7, ht0, ht1, ha0, ha1]
  rfl

/-- What the body leaves in its cell is the loss of its operands. -/
theorem lossAt_eq (d : Dev nD) (j) : (lossAt V d).1 j = lossKern (opP V d) (opM V d) (opT V d) (opA V d) := by
  dsimp only [lossAt, lossRun]
  unfold lossRun.sl.H4_1
  refine (cell_read _ _ j).trans ?_
  unfold lossRun.sl.r_13 lossRun.sl.r_14 lossRun.sl.r_15 lossRun.sl.r_16 lossRun.sl.r_17 lossRun.sl.r_18 lossRun.sl.r_19 lossRun.sl.r_20
  sl_unfold_words
  exact pays_eq (opP V d) (opM V d) (opT V d) (opA V d)
    (fun a b => (pay2_at _ a b).trans (congrArg (FloatOps.sitofp (F := Ideal) .f32) ((ld1 (blk1 V d) _ a b).trans (blk1_at V d a b))))
    (fun a b => (pay3_at _ a b).trans ((ld0 (blk0 V d) 0 (by decide) _ a b).trans (blk0_at V d 0 a b)))
    (fun a b => (pay4_at _ a b).trans ((ld0 (blk0 V d) 1 (by decide) _ a b).trans (blk0_at V d 1 a b)))
    (fun a b => (pay5_at _ a b).trans ((ld0 (blk0 V d) 2 (by decide) _ a b).trans (blk0_at V d 2 a b)))
    (fun a b => (pay6_at _ a b).trans ((ld0 (blk0 V d) 3 (by decide) _ a b).trans (blk0_at V d 3 a b)))
    (fun a b => (pay7_at _ a b).trans ((ld0 (blk0 V d) 4 (by decide) _ a b).trans (blk0_at V d 4 a b)))
    (fun a b => (pay8_at _ a b).trans ((ld0 (blk0 V d) 5 (by decide) _ a b).trans (blk0_at V d 5 a b)))
    (fun a b => (pay9_at _ a b).trans ((ld0 (blk0 V d) 6 (by decide) _ a b).trans (blk0_at V d 6 a b)))
    (fun a b => (pay10_at _ a b).trans ((ld0 (blk0 V d) 7 (by decide) _ a b).trans (blk0_at V d 7 a b)))
    (fun a b => (pay11_at _ a b).trans ((ld2 (blk2 V d) 0 (by decide) _ a b).trans (blk2_at V d 0 a b)))
    (fun a b => (pay12_at _ a b).trans ((ld2 (blk2 V d) 1 (by decide) _ a b).trans (blk2_at V d 1 a b)))
    (fun a b => (pay13_at _ a b).trans ((ld3 (blk3 V d) 0 (by decide) _ a b).trans (blk3_at V d 0 a b)))
    (fun a b => (pay14_at _ a b).trans ((ld3 (blk3 V d) 1 (by decide) _ a b).trans (blk3_at V d 1 a b)))

theorem lossOut_eq (d : Dev nD) : lossOut V d = (lossAt V d).1 := by
  refine Pipeline.Dat.arrAt_eq_of_after_last _ 4 t1_0 (by decide +kernel) _ fun j => ?_
  show (lossAt V d).1 _ = _
  exact congrArg (lossAt V d).1 ((cell_eq _).trans (cell_eq _).symm)

/-- The loss array after the region holds the loss of its operands. -/
theorem lossOut_val (d : Dev nD) (j) : lossOut V d j = lossKern (opP V d) (opM V d) (opT V d) (opA V d) := by
  rw [lossOut_eq]; exact lossAt_eq V d j

end Cert.Proof.Focal

end
-- ==== Proof.Value.lean ====
/- What the kernel's program leaves in its result, from its five arguments: the loss of the features that the indices choose. -/
module

public import proofs.«01_k».proof.Proof.Run
public import proofs.«01_k».proof.Proof.LossValue

@[expose] public section

set_option maxRecDepth 20000

noncomputable section

namespace Cert.Proof.Focal

open Cert.KernelIdeal Cert.KernelIdeal.Gen
open Idealize.ShloMosaic Idealize.ShloMosaic.TcCoe

variable (m : (ℓ : Loc nD τ sig) → Buf (Elt Ideal) ℓ)

theorem V3_pred (d : Dev nD) : V3 m d main_v2 = shapeCast S8x32x128 (gathered (tab m) (ind m) d) shapeCasts_S256x128_S8x32x128 := by
  unfold V3
  rw [StableHlo.unary_result_ne (x := main_arg4) (y := main_v4) _ _ _ _ (by decide), StableHlo.unary_result_ne (x := main_arg3) (y := main_v3) _ _ _ _ (by decide)]
  exact (StableHlo.reshape_result' (x := main_v1) (y := main_v2) _ _ _ _ _).trans (congrArg (shapeCast S8x32x128 · shapeCasts_S256x128_S8x32x128) (V2_out m d))

theorem tab_eq (d : Dev nD) : tab m d = shapeCast S4194304 (m (d, (main_arg0 : DevRef τ sig)) : S32x8x128x128.Idx → EReal) shapeCasts_S32x8x128x128_S4194304 :=
  StableHlo.reshape_result' (x := main_arg0) (y := main_v0) _ _ _ _ _

theorem V2_arg (d : Dev nD) {b : Ref sig .tc} (h0 : b ≠ main_v0) (h1 : b ≠ main_v1) : V2 m d b = m (d, (b : DevRef τ sig)) := by
  rw [V2_ne m d h1]; unfold V1
  rw [StableHlo.reshape_result_ne (x := main_arg0) (y := main_v0) _ _ _ _ _ h0]; rfl

theorem opM_eq (d : Dev nD) : opM (V3 m) d = maskOf (m (d, (main_arg1 : DevRef τ sig))) := by
  unfold opM maskOf V3
  rw [StableHlo.unary_result_ne (x := main_arg4) (y := main_v4) _ _ _ _ (by decide), StableHlo.unary_result_ne (x := main_arg3) (y := main_v3) _ _ _ _ (by decide),
    StableHlo.reshape_result_ne (x := main_v1) (y := main_v2) _ _ _ _ _ (by decide), V2_arg m d (by decide) (by decide)]

theorem opT_eq (d : Dev nD) : opT (V3 m) d = binOf (m (d, (main_arg3 : DevRef τ sig))) := by
  funext c a b
  unfold opT binOf V3
  rw [StableHlo.unary_result_ne (x := main_arg4) (y := main_v4) _ _ _ _ (by decide), StableHlo.unary_result' (x := main_arg3) (y := main_v3),
    StableHlo.reshape_result_ne (x := main_v1) (y := main_v2) _ _ _ _ _ (by decide), V2_arg m d (by decide) (by decide)]
  pointwise

theorem opA_eq (d : Dev nD) : opA (V3 m) d = angOf (m (d, (main_arg4 : DevRef τ sig))) := by
  funext c a b
  unfold opA angOf V3
  rw [StableHlo.unary_result' (x := main_arg4) (y := main_v4), StableHlo.unary_result_ne (x := main_arg3) (y := main_v3) _ _ _ _ (by decide),
    StableHlo.reshape_result_ne (x := main_v1) (y := main_v2) _ _ _ _ _ (by decide), V2_arg m d (by decide) (by decide)]
  pointwise

/-- The gathered array at row `32 c + a`, object `b`. -/
theorem OUT_flat (x : S32x8x128x128.Idx → EReal) (fx : S32x128.Idx → BitVec 32) (c : Fin 8) (a : Fin 32) (b : Fin 128) (hr : c.val * 32 + a.val < 256)
    (hI : (fx (ix2 a b)).toNat < 16384) :
    OUT (F := Ideal) (shapeCast S4194304 x shapeCasts_S32x8x128x128_S4194304) fx (ix2 ⟨c.val * 32 + a.val, hr⟩ b) = feat x fx c a b := by
  have ha := a.isLt
  have hc := c.isLt
  have e1 : (c.val * 32 + a.val) % 32 = a.val := by omega
  have e2 : (c.val * 32 + a.val) / 32 = c.val := by omega
  have ei : (at2 ⟨(c.val * 32 + a.val) % 32, Nat.mod_lt _ (by decide)⟩ b : S32x128.Idx) = ix2 a b := by
    funext k; fin_cases k
    · exact Fin.ext e1
    · rfl
  show shapeCast S4194304 x shapeCasts_S32x8x128x128_S4194304
    (at1 ⟨(((c.val * 32 + a.val) % 32 * 8 + (c.val * 32 + a.val) / 32) * 16384
      + BitVec.toNat (fx (at2 ⟨(c.val * 32 + a.val) % 32, Nat.mod_lt _ (by decide)⟩ b))) % 4194304, Nat.mod_lt _ (by decide)⟩) = _
  rw [ei]
  unfold feat
  refine shapeCast_apply _ _ _ _ ?_
  rw [Shape.rowMajor_val_four, Shape.rowMajor_val_one]
  show ((a.val * 8 + c.val) * 128 + (fx (ix2 a b)).toNat / 128 % 128) * 128 + (fx (ix2 a b)).toNat % 128
    = (((c.val * 32 + a.val) % 32 * 8 + (c.val * 32 + a.val) / 32) * 16384 + (fx (ix2 a b)).toNat) % 4194304
  rw [e1, e2]
  generalize (fx (ix2 a b)).toNat = n at hI
  omega

theorem opP_eq (d : Dev nD) (hI : ∀ i, (ind m d i).toNat < 16384) : opP (V3 m) d = feat (m (d, (main_arg0 : DevRef τ sig))) (m (d, (main_arg2 : DevRef τ sig))) := by
  funext c a b
  unfold opP
  rw [V3_pred]
  pointwise
  show OUT (tab m d) (ind m d) (ix2 ⟨c.val * 32 + a.val, _⟩ b) = _
  rw [tab_eq]
  exact OUT_flat _ _ c a b _ (hI _)

theorem Vend_val (d : Dev nD) (hI : ∀ i, (ind m d i).toNat < 16384) (j) : Vend m d main_v6 j
    = lossKern (feat (m (d, (main_arg0 : DevRef τ sig))) (m (d, (main_arg2 : DevRef τ sig)))) (maskOf (m (d, (main_arg1 : DevRef τ sig))))
        (binOf (m (d, (main_arg3 : DevRef τ sig)))) (angOf (m (d, (main_arg4 : DevRef τ sig)))) := by
  rw [← opP_eq m d hI, ← opM_eq, ← opT_eq, ← opA_eq]
  unfold Vend V4
  rw [StableHlo.reshape_result' (x := main_v5) (y := main_v6), Vloss_out]
  exact lossOut_val _ _ _

end Cert.Proof.Focal

end
-- ==== Proof.RefMean.lean ====
/- The reference's weighted mean and its summands over the extended reals: arrays of 4096 numbers read as 32 rows of 128. -/
module

public import proofs.«01_k».proof.Proof.Gen.ReferenceIdeal.Run
public import proofs.«01_k».proof.Proof.Equation
public import Idealize.ShloMosaic.Lib.Pointwise

@[expose] public section

set_option maxRecDepth 20000

noncomputable section

namespace Cert.Proof.Focal

open Cert.ReferenceIdeal Cert.ReferenceIdeal.Gen Cert.ReferenceIdeal.Value
open Idealize.ShloMosaic Idealize.ShloMosaic.TcCoe

/-- Position of image `a`, object `b` in a flat array. -/
def pos (a : Fin 32) (b : Fin 128) : Fin 4096 := ⟨a.val * 128 + b.val, by have := a.isLt; have := b.isLt; omega⟩

/-- A flat array as a field. -/
def rows (v : S4096.Idx → EReal) : Field := fun a b => v (ix1 (pos a b))

/-- A sum over `N = A · B` positions, row by row. -/
theorem sum_split {A B N : ℕ} (e : N = A * B) (f : Fin N → EReal) (g : Fin A → Fin B → EReal)
    (h : ∀ a b (hn : a.val * B + b.val < N), f ⟨a.val * B + b.val, hn⟩ = g a b) : ∑ n, f n = ∑ a, ∑ b, g a b := by
  subst e
  rw [← Fintype.sum_prod_type' (f := g)]
  refine (Fintype.sum_equiv finProdFinEquiv _ _ fun p => ?_).symm
  have hv : (finProdFinEquiv p).val = p.1.val * B + p.2.val := by rw [finProdFinEquiv_apply_val, mul_comm, add_comm]
  have hn : p.1.val * B + p.2.val < A * B := hv ▸ (finProdFinEquiv p).isLt
  have e : finProdFinEquiv p = ⟨p.1.val * B + p.2.val, hn⟩ := Fin.ext hv
  rw [e]; exact (h p.1 p.2 _).symm

theorem sum_rows (f : Fin 4096 → EReal) : ∑ n, f n = total fun a b => f (pos a b) :=
  sum_split (A := 32) (B := 128) rfl f _ fun _ _ _ => rfl

/-- The reference's weighted mean of one array by another. -/
def meanR (v w : FVec Ideal S4096 .f32) : FVec Ideal S_ .f32 :=
  select (cmpf .ogt (Host.reduceAdd w (constant S_ .f32 0x00000000#32) reducesTo_S4096_S_d0 h_S_) (constant S_ .f32 0x00000000#32))
    (Host.divf (Host.reduceAdd (mulf v w) (constant S_ .f32 0x00000000#32) reducesTo_S4096_S_d0 h_S_)
      (maximumf (Host.reduceAdd w (constant S_ .f32 0x00000000#32) reducesTo_S4096_S_d0 h_S_) (constant S_ .f32 0x3F800000#32))) (id (constant S_ .f32 0x00000000#32))

theorem meanR_eq (v w : FVec Ideal S4096 .f32) (i : S_.Idx) : meanR v w i = wmean (rows v) (rows w) := by
  unfold meanR
  pointwise [id]
  unfold wmean over rows
  rw [sum_rows, sum_rows]

/-- The reference's smooth L1, an array. -/
def smoothR (d : FVec Ideal S4096 .f32) : FVec Ideal S4096 .f32 :=
  select (cmpf .olt (Host.absf d) (broadcastInDim S4096 ![] bcast_S_S4096 (constant S_ .f32 0x3F800000#32)))
    (mulf (mulf (broadcastInDim S4096 ![] bcast_S_S4096 (constant S_ .f32 0x3F000000#32)) d) d)
    (subf (Host.absf d) (broadcastInDim S4096 ![] bcast_S_S4096 (constant S_ .f32 0x3F000000#32)))

theorem smoothR_eq (d : FVec Ideal S4096 .f32) (n : Fin 4096) : smoothR d (ix1 n) = smooth (d (ix1 n)) := by
  unfold smoothR
  pointwise
  rfl

end Cert.Proof.Focal

end
-- ==== Proof.RefGather.lean ====
/- The reference's two gathers along an axis, read at an index: the features at the indices' pixels, the logits at the bins. -/
module

public import proofs.«01_k».proof.Proof.RefMean
public import Idealize.ShloMosaic.Lib.ReduceAll

@[expose] public section

set_option maxRecDepth 20000

noncomputable section

namespace Cert.Proof.Focal

open Cert.ReferenceIdeal Cert.ReferenceIdeal.Gen Cert.ReferenceIdeal.Value
open Idealize.ShloMosaic Idealize.ShloMosaic.TcCoe

/-- A word below `2 ^ 31`, read signed. -/
theorem toInt_toNat (t : BitVec 32) (n : ℕ) (h : t.toNat < n) (hn : n ≤ 2147483648) : t.toInt.toNat = t.toNat := by
  rw [BitVec.toInt_eq_toNat_cond]; split <;> omega

/-- The gather of a column of logits, one per row. -/
theorem gatherBin (l : S4096x2.Idx → EReal) (t : IVec S4096x1x1 32) (n : Fin 4096) (h : (t (ix3 n 0 0)).toNat < 2) :
    Host.gather gather_S4096x2_S4096x1x1_S4096x1_n_1_0_0_1_2_11 l t (ix2 n 0) = l (ix2 n ⟨(t (ix3 n 0 0)).toNat, h⟩) := by
  unfold Host.gather
  refine congrArg l ?_
  funext a
  refine Fin.ext ?_
  fin_cases a
  · show 0 + n.val + 0 = n.val; omega
  · have hs : gather_S4096x2_S4096x1x1_S4096x1_n_1_0_0_1_2_11.siIdx (ix2 n 0) ⟨0, by decide⟩ = ix3 n 0 0 := by
      funext b; fin_cases b <;> rfl
    show min (t (gather_S4096x2_S4096x1x1_S4096x1_n_1_0_0_1_2_11.siIdx (ix2 n 0) ⟨0, _⟩)).toInt.toNat 1 + 0 + 0 = (t (ix3 n 0 0)).toNat
    rw [hs, toInt_toNat _ 2 h (by decide)]
    omega

/-- The gather of the features, one row of the flat maps per object and channel. -/
theorem gatherFeat (x : S32x16384x8.Idx → EReal) (t : IVec S32x128x8x1 32) (a : Fin 32) (b : Fin 128) (c : Fin 8) (h : (t (ix4 a b c 0)).toNat < 16384) :
    Host.gather gather_S32x16384x8_S32x128x8x1_S32x128x8_n_1_02_02_1_3_111 x t (ix3 a b c) = x (ix3 a ⟨(t (ix4 a b c 0)).toNat, h⟩ c) := by
  unfold Host.gather
  refine congrArg x ?_
  funext k
  refine Fin.ext ?_
  fin_cases k
  · show 0 + a.val + 0 = a.val; omega
  · have hs : gather_S32x16384x8_S32x128x8x1_S32x128x8_n_1_02_02_1_3_111.siIdx (ix3 a b c) ⟨0, by decide⟩ = ix4 a b c 0 := by
      funext b; fin_cases b <;> rfl
    show min (t (gather_S32x16384x8_S32x128x8x1_S32x128x8_n_1_02_02_1_3_111.siIdx (ix3 a b c) ⟨0, _⟩)).toInt.toNat 16383 + 0 + 0 = (t (ix4 a b c 0)).toNat
    rw [hs, toInt_toNat _ 16384 h (by decide)]
    omega
  · show 0 + c.val + 0 = c.val; omega

/-- A word that a range check finds in its range is not moved by the wrap of negative indices. -/
theorem wrap_pos (t k : BitVec 32) (h : t.toNat < 2147483648) : Scalar.select (IntOp.cmpi .slt t 0#32) (IntOp.addi t k) t = t := by
  have hc : IntOp.cmpi .slt t 0#32 = 0#1 := by
    unfold IntOp.cmpi
    rw [show BitVec.slt t 0#32 = false from ?_]; rfl
    rw [BitVec.slt_eq_decide, decide_eq_false_iff_not, show (0#32).toInt = 0 from rfl, BitVec.toInt_eq_toNat_cond]
    split <;> omega
  rw [hc]; rfl

/-- The reference's range check of a word that is in range. -/
theorem check_one (t k : BitVec 32) (hk : k.toNat < 2147483648) (h : t.toNat ≤ k.toNat) : IntOp.andi (IntOp.cmpi .sge t 0#32) (IntOp.cmpi .sle t k) = 1#1 := by
  have h1 : IntOp.cmpi .sge t 0#32 = 1#1 := by
    unfold IntOp.cmpi
    rw [show BitVec.sle 0#32 t = true from ?_]; rfl
    rw [BitVec.sle_eq_decide, decide_eq_true_iff, show (0#32).toInt = 0 from rfl, BitVec.toInt_eq_toNat_cond]
    split <;> omega
  have h2 : IntOp.cmpi .sle t k = 1#1 := by
    unfold IntOp.cmpi
    rw [show BitVec.sle t k = true from ?_]; rfl
    rw [BitVec.sle_eq_decide, decide_eq_true_iff, BitVec.toInt_eq_toNat_cond, BitVec.toInt_eq_toNat_cond]
    split <;> split <;> omega
  rw [h1, h2]; rfl

variable (V0 : Valuation τ sig (Elt Ideal))

/-- The arguments' arrays as the reference finds them. -/
abbrev refX : S32x8x128x128.Idx → EReal := V0 (Proc.devRef .tc main_arg0)
abbrev refI : S32x128.Idx → BitVec 32 := V0 (Proc.devRef .tc main_arg2)
abbrev refT : S32x128x2.Idx → BitVec 32 := V0 (Proc.devRef .tc main_arg3)

theorem idx_at (hI : ∀ i, (refI V0 i).toNat < 16384) (a : Fin 32) (b : Fin 128) (c : Fin 8) : res_main_call0_v5 V0 (ix4 a b c 0) = refI V0 (ix2 a b) := by
  pointwise [res_main_call0_v5, res_main_v3]
  exact wrap_pos _ _ (lt_trans (hI _) (by decide))

theorem pos_div (a : Fin 32) (b : Fin 128) (h : (pos a b).val / 128 < 32) : (⟨(pos a b).val / 128, h⟩ : Fin 32) = a :=
  Fin.ext (show (a.val * 128 + b.val) / 128 = a.val by have := b.isLt; omega)

theorem pos_mod (a : Fin 32) (b : Fin 128) (h : (pos a b).val % 128 < 128) : (⟨(pos a b).val % 128, h⟩ : Fin 128) = b :=
  Fin.ext (show (a.val * 128 + b.val) % 128 = b.val by have := b.isLt; omega)

/-- The bins' words, as the reference's gathers of logits find them. -/
theorem bin0_at (hT : ∀ i, (refT V0 i).toNat < 2) (a : Fin 32) (b : Fin 128) : res_main_call1_v5 V0 (ix3 (pos a b) 0 0) = binOf (refT V0) 0 a b := by
  pointwise [res_main_call1_v5, res_main_v16, res_main_v6]
  rw [pos_div, pos_mod]
  exact wrap_pos _ _ (lt_trans (hT _) (by decide))

theorem bin1_at (hT : ∀ i, (refT V0 i).toNat < 2) (a : Fin 32) (b : Fin 128) : res_main_call3_v5 V0 (ix3 (pos a b) 0 0) = binOf (refT V0) 1 a b := by
  pointwise [res_main_call3_v5, res_main_v33, res_main_v6]
  rw [pos_div, pos_mod]
  exact wrap_pos _ _ (lt_trans (hT _) (by decide))

/-- The features the reference gathers. -/
theorem feat_at (hI : ∀ i, (refI V0 i).toNat < 16384) (a : Fin 32) (b : Fin 128) (c : Fin 8) :
    res_main_v5 V0 (ix2 (pos a b) c) = feat (refX V0) (refI V0) c a b := by
  have hi := idx_at V0 hI
  have hb : ∀ a b c, (res_main_call0_v5 V0 (ix4 a b c 0)).toNat < 16384 := fun a b c => by rw [hi]; exact hI _
  unfold res_main_v5
  refine (shapeCast_apply (t := S4096x8) _ _ _ (ix3 a b c) ?_).trans ?_
  · rw [Shape.rowMajor_val_three, Shape.rowMajor_val_two]; rfl
  show Scalar.select (Host.reduce IntOp.andi _ _ _ _ (ix3 a b c)) (Host.gather _ _ _ _) _ = _
  rw [Host.reduce_andi_one, gatherFeat _ _ _ _ _ (hb a b c)]
  · pointwise
    unfold feat
    refine congrArg (V0 (Proc.devRef .tc main_arg0)) (congrArg₂ (ix4 a c) (Fin.ext ?_) (Fin.ext ?_))
    · show (res_main_call0_v5 V0 (ix4 a b c 0)).toNat / 128 = (refI V0 (ix2 a b)).toNat / 128 % 128
      rw [hi]
      have := hI (ix2 a b)
      omega
    · show (res_main_call0_v5 V0 (ix4 a b c 0)).toNat % 128 = (refI V0 (ix2 a b)).toNat % 128
      rw [hi]
  · rfl
  · intro i
    obtain ⟨i0, i1, i2, i3, rfl⟩ : ∃ (i0 : Fin 32) (i1 : Fin 128) (i2 : Fin 8) (i3 : Fin 1), i = ix4 i0 i1 i2 i3 :=
      ⟨i 0, i 1, i 2, i 3, by funext k; fin_cases k <;> rfl⟩
    obtain rfl : i3 = 0 := Subsingleton.elim _ _
    exact check_one _ 16383#32 (by decide) (Nat.le_of_lt_succ (hb i0 i1 i2))

/-- A fold by `and` over ones. -/
theorem fold_one {ι : Type} [DecidableEq ι] (s : Finset ι) (f : ι → BitVec 1) (h : ∀ i, f i = 1#1) : Finset.fold IntOp.andi 1#1 f s = 1#1 := by
  induction s using Finset.induction_on with
  | empty => rfl
  | insert a s ha ih => rw [Finset.fold_insert ha, ih, h]; rfl

/-- The reference's cross entropy of two columns of logits at bins, an array. -/
def ceR (l : FVec Ideal S4096x2 .f32) (t : IVec S4096x1x1 32) : FVec Ideal S4096 .f32 :=
  subf (Host.log (Host.reduceAdd (Host.exp l) (constant S_ .f32 0x00000000#32) reducesTo_S4096x2_S4096_d1 h_S_))
    (shapeCast _ (select (Host.reduce IntOp.andi (andi (cmpi .sge t (broadcastInDim S4096x1x1 ![] bcast_S_S4096x1x1 (constantI S_ 32 0#32)))
      (cmpi .sle t (broadcastInDim S4096x1x1 ![0, 1, 2] bcast_S1x1x1_S4096x1x1_0_1_2 (broadcastInDim S1x1x1 ![2] bcast_S1_S1x1x1_2 (constantI S1 32 1#32)))))
      (constantI S_ 1 1#1) reducesTo_S4096x1x1_S4096x1_d2 h_S_) (Host.gather gather_S4096x2_S4096x1x1_S4096x1_n_1_0_0_1_2_11 l t)
      (broadcastInDim S4096x1 ![] bcast_S_S4096x1 (constant S_ .f32 0x7FC00000#32))) shapeCasts_S4096x1_S4096)

/-- The one of two logits that a bin of 0 or 1 names. -/
theorem pick_at (l : S4096x2.Idx → EReal) (n : Fin 4096) (t : BitVec 32) (h : t.toNat < 2) : l (ix2 n ⟨t.toNat, h⟩) = pick t (l (ix2 n 0)) (l (ix2 n 1)) := by
  have : t = 0#32 ∨ t = 1#32 := by
    rcases (show t.toNat = 0 ∨ t.toNat = 1 by omega) with e | e
    · exact Or.inl (BitVec.eq_of_toNat_eq e)
    · exact Or.inr (BitVec.eq_of_toNat_eq e)
  rcases this with rfl | rfl <;> rfl

theorem ceR_at (l : FVec Ideal S4096x2 .f32) (t : IVec S4096x1x1 32) (n : Fin 4096) (h : (t (ix3 n 0 0)).toNat < 2) :
    ceR l t (ix1 n) = ce (l (ix2 n 0)) (l (ix2 n 1)) (t (ix3 n 0 0)) := by
  unfold ceR
  pointwise
  rw [fold_one, gatherBin _ _ _ h, Fin.sum_univ_two, pick_at l]
  · rfl
  · intro x
    obtain rfl : x = 0 := Subsingleton.elim _ _
    exact check_one _ 1#32 (by decide) (Nat.le_of_lt_succ h)

end Cert.Proof.Focal

end
-- ==== Proof.Reference.lean ====
/- What the reference leaves in its result, from its five arguments: the loss of the features that the indices choose. -/
module

public import proofs.«01_k».proof.Proof.RefGather

@[expose] public section

set_option maxRecDepth 20000

noncomputable section

namespace Cert.Proof.Focal

open Cert.ReferenceIdeal Cert.ReferenceIdeal.Gen Cert.ReferenceIdeal.Value
open Idealize.ShloMosaic Idealize.ShloMosaic.TcCoe

variable (V0 : Valuation τ sig (Elt Ideal))

abbrev refM : S32x128.Idx → BitVec 32 := V0 (Proc.devRef .tc main_arg1)
abbrev refA : S32x128x2.Idx → EReal := V0 (Proc.devRef .tc main_arg4)

/-- The reference's result, its eight reductions named. -/
theorem res_eq : res_main_v146 V0
    = addf (addf (meanR (ceR (res_main_v10 V0) (res_main_call1_v5 V0)) (res_main_v9 V0)) (meanR (ceR (res_main_v27 V0) (res_main_call3_v5 V0)) (res_main_v9 V0)))
        (addf (addf (addf (meanR (smoothR (res_main_v59 V0)) (res_main_v48 V0)) (meanR (smoothR (res_main_v81 V0)) (res_main_v48 V0)))
          (meanR (smoothR (res_main_v103 V0)) (res_main_v53 V0))) (meanR (smoothR (res_main_v125 V0)) (res_main_v53 V0))) := by
  unfold res_main_v146 meanR ceR smoothR res_main_v20 res_main_v37 res_main_v69 res_main_v91 res_main_v113 res_main_v135 res_main_v60 res_main_v82
    res_main_v104 res_main_v126
  rfl

/-- The reference's indicator of a nonzero word. -/
theorem flagR (t : BitVec 32) : FloatOps.uitofp (F := Ideal) .f32 (IntOp.cmpi .ne t 0#32) = flag t := by
  unfold flag
  by_cases h : t = 0#32
  · subst h; rw [if_pos rfl]
    show (((IntOp.cmpi .ne 0#32 0#32).toNat : ℝ) : EReal) = 0
    rw [show (IntOp.cmpi .ne 0#32 0#32).toNat = 0 by decide]; simp
  · rw [if_neg h]
    have : IntOp.cmpi .ne t 0#32 = 1#1 := by simp [IntOp.cmpi, show (t != 0#32) = true from bne_iff_ne.mpr h]
    rw [this]
    show (((1#1 : BitVec 1).toNat : ℝ) : EReal) = 1
    rw [show (1#1 : BitVec 1).toNat = 1 by decide]; simp

theorem mask_rows : rows (res_main_v9 V0) = maskOf (refM V0) := by
  funext a b
  unfold rows maskOf
  pointwise [res_main_v9]
  rw [pos_div, pos_mod]

theorem flag0_rows : rows (res_main_v48 V0) = fun a b => flag (binOf (refT V0) 0 a b) := by
  funext a b
  unfold rows binOf
  pointwise [res_main_v48, res_main_v6]
  rw [pos_div, pos_mod]
  exact flagR _

theorem flag1_rows : rows (res_main_v53 V0) = fun a b => flag (binOf (refT V0) 1 a b) := by
  funext a b
  unfold rows binOf
  pointwise [res_main_v53, res_main_v6]
  rw [pos_div, pos_mod]
  exact flagR _

theorem ce0_rows (hI : ∀ i, (refI V0 i).toNat < 16384) (hT : ∀ i, (refT V0 i).toNat < 2) : rows (ceR (res_main_v10 V0) (res_main_call1_v5 V0))
    = fun a b => ce (feat (refX V0) (refI V0) 0 a b) (feat (refX V0) (refI V0) 1 a b) (binOf (refT V0) 0 a b) := by
  funext a b
  unfold rows
  rw [ceR_at _ _ _ (by rw [bin0_at V0 hT]; exact hT _), bin0_at V0 hT, ← feat_at V0 hI, ← feat_at V0 hI]
  pointwise [res_main_v10]

theorem ce1_rows (hI : ∀ i, (refI V0 i).toNat < 16384) (hT : ∀ i, (refT V0 i).toNat < 2) : rows (ceR (res_main_v27 V0) (res_main_call3_v5 V0))
    = fun a b => ce (feat (refX V0) (refI V0) 4 a b) (feat (refX V0) (refI V0) 5 a b) (binOf (refT V0) 1 a b) := by
  funext a b
  unfold rows
  rw [ceR_at _ _ _ (by rw [bin1_at V0 hT]; exact hT _), bin1_at V0 hT, ← feat_at V0 hI, ← feat_at V0 hI]
  pointwise [res_main_v27]

theorem sin0_rows (hI : ∀ i, (refI V0 i).toNat < 16384) : rows (smoothR (res_main_v59 V0))
    = fun a b => smooth (feat (refX V0) (refI V0) 2 a b - Ideal.sin (angOf (refA V0) 0 a b)) := by
  funext a b
  unfold rows angOf
  rw [smoothR_eq, ← feat_at V0 hI]
  pointwise [res_main_v59, res_main_v7]
  rw [pos_div, pos_mod]

theorem cos0_rows (hI : ∀ i, (refI V0 i).toNat < 16384) : rows (smoothR (res_main_v81 V0))
    = fun a b => smooth (feat (refX V0) (refI V0) 3 a b - Ideal.cos (angOf (refA V0) 0 a b)) := by
  funext a b
  unfold rows angOf
  rw [smoothR_eq, ← feat_at V0 hI]
  pointwise [res_main_v81, res_main_v7]
  rw [pos_div, pos_mod]

theorem sin1_rows (hI : ∀ i, (refI V0 i).toNat < 16384) : rows (smoothR (res_main_v103 V0))
    = fun a b => smooth (feat (refX V0) (refI V0) 6 a b - Ideal.sin (angOf (refA V0) 1 a b)) := by
  funext a b
  unfold rows angOf
  rw [smoothR_eq, ← feat_at V0 hI]
  pointwise [res_main_v103, res_main_v7]
  rw [pos_div, pos_mod]

theorem cos1_rows (hI : ∀ i, (refI V0 i).toNat < 16384) : rows (smoothR (res_main_v125 V0))
    = fun a b => smooth (feat (refX V0) (refI V0) 7 a b - Ideal.cos (angOf (refA V0) 1 a b)) := by
  funext a b
  unfold rows angOf
  rw [smoothR_eq, ← feat_at V0 hI]
  pointwise [res_main_v125, res_main_v7]
  rw [pos_div, pos_mod]

/-- The reference's result is the loss of its arguments. -/
theorem res_val (hI : ∀ i, (refI V0 i).toNat < 16384) (hT : ∀ i, (refT V0 i).toNat < 2) (i : S_.Idx) : (res_main_v146 V0 : S_.Idx → EReal) i
    = lossSpec (feat (refX V0) (refI V0)) (maskOf (refM V0)) (binOf (refT V0)) (angOf (refA V0)) := by
  rw [res_eq]
  show (meanR _ _ i + meanR _ _ i) + (((meanR _ _ i + meanR _ _ i) + meanR _ _ i) + meanR _ _ i) = _
  simp only [meanR_eq, mask_rows, flag0_rows, flag1_rows, ce0_rows V0 hI hT, ce1_rows V0 hI hT, sin0_rows V0 hI, cos0_rows V0 hI, sin1_rows V0 hI, cos1_rows V0 hI]
  rfl

end Cert.Proof.Focal

end
-- ==== Proof.Scs.lean ====
/-
  The scalar subcores' call: two sequencers, of which the first copies 128 index words into the result and the second
  does nothing. The sequencers' bodies, run with what they leave.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.ScsKernelIdeal
public import proofs.«01_k».proof.Proof.Gen.ScsKernelIdeal.Skeleton

@[expose] public section

noncomputable section

namespace Cert.Proof.Scs

open Cert.ScsKernelIdeal Cert.ScsKernelIdeal.Gen

open Idealize.ShloMosaic
open Idealize.ShloMosaic.SparseCore (S V T)
open Idealize.ShloMosaic.SparseCore.Cfg (HIx ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the copy's counters -/

abbrev UH : Type := URounds (GSem nD τ sig) ℕ
abbrev UU : Type := UH × Counters

/-- The model's resource algebra over the float type `F`. -/
abbrev MM (F : FTy → Type) := MT nD τ sig (HIx 1) (Elt F) ℕ UU ℕ

abbrev EH : Emb UH (MM F) := embL

/-! ## The two arrays of the call -/

/-- The flat indices and the words copied, as the host addresses them on device `d`. -/
abbrev xLoc (d : Dev nD) : Loc nD τ sig := (SparseCore.T d).loc main_v0
abbrev oLoc (d : Dev nD) : Loc nD τ sig := (SparseCore.T d).loc main_v1

abbrev xM : Memref sig .scScalar .hbm S4096 .i32 := Memref.whole main_v0_scs
abbrev oM : Memref sig .scScalar .hbm S128 .i32 := Memref.whole main_v1_scs

/-- The first 128 index words. -/
def leading (f : S4096.Idx → Elt F .i32) : S128.Idx → Elt F .i32 :=
  fun i => f (fun | 0 => ⟨(i 0).val, lt_of_lt_of_le (i 0).isLt (by decide)⟩)

/-- Both arrays whole, the words copied at `o`. -/
def Arrays (d : Dev nD) (f : S4096.Idx → Elt F .i32) (o : S128.Idx → Elt F .i32) : sProp (MM F) :=
  iprop((xLoc d ↦{fullShare} f) ∗ oLoc d ↦{fullShare} o)

instance Arrays_storable (d : Dev nD) (f : S4096.Idx → Elt F .i32) (o : S128.Idx → Elt F .i32) :
    BI.Storable (upEmb : UEmb _ (MM F)) (Arrays d f o) := by unfold Arrays; infer_instance

/-- What SparseCore `c`'s sequencer is handed: the first one everything, the other nothing. -/
def Task (d : Dev nD) (f : S4096.Idx → Elt F .i32) (o : S128.Idx → Elt F .i32) (c : ℕ) : sProp (MM F) :=
  if c = 0 then Arrays d f o else iprop(emp)

instance Task_storable (d : Dev nD) (f : S4096.Idx → Elt F .i32) (o : S128.Idx → Elt F .i32) (c : ℕ) :
    BI.Storable (upEmb : UEmb _ (MM F)) (Task d f o c) := by unfold Task; split <;> infer_instance

/-! ## The sequencer's body -/

section Body

variable [FloatOps F] (d : Dev nD)

def coords (c : Fin (grid0.bound 0)) : grid0.Coords := fun | 0 => c | ⟨_ + 1, h⟩ => absurd h (Nat.not_lt.2 (Nat.le_add_left _ _))

abbrev prog (c : Fin (grid0.bound 0)) : Prog (TpuEff nD τ sig (Elt F) Λ₀ (.scScalar (c.castLE hcore0))) PUnit :=
  cc0__scs_noop_body (coords c) xM (Memref.isWhole_whole _) oM (Memref.isWhole_whole _) cc0_scoped0

/-- The sequencer's thread. -/
abbrev thr (c : Fin (grid0.bound 0)) : Thread nD τ := S d (c.castLE hcore0)
/-- Its copy's semaphore. -/
abbrev cell (c : Fin (grid0.bound 0)) : GSem nD τ sig := (thr d c, .dma cc0_scoped0.sem)

omit [FloatOps F] in
theorem sems_split (c : Fin (grid0.bound 0)) : (ownSems0 (thr d c) : sProp (MM F))
    = iprop(semVal (cell d c) 0 ∗ bigSep ((ownCells (thr d c)).erase (cell d c)) fun g => semVal g 0) := by
  unfold SparseCore.Cfg.ownSems0
  exact SparseCore.bigSep_erase' ((mem_ownCells (g := cell d c)).mpr ⟨rfl, by show (SemLoc.dma cc0_scoped0.sem : SemLoc sig).isScoped .scScalar = true; decide⟩)

omit [FloatOps F] in
/-- The arrays as the sequencer addresses them. -/
theorem x_seen (c : Fin (grid0.bound 0)) (f : S4096.Idx → Elt F .i32) :
    ((xM).view.loc (thr d c) ↦{fullShare} f : sProp (MM F)) = xLoc d ↦{fullShare} f := by
  simp only [Memref.view_whole, View.set_whole]
omit [FloatOps F] in
theorem o_seen (c : Fin (grid0.bound 0)) (o : S128.Idx → Elt F .i32) :
    ((oM).view.loc (thr d c) ↦{fullShare} o : sProp (MM F)) = oLoc d ↦{fullShare} o := by
  simp only [Memref.view_whole, View.set_whole]

variable (f : S4096.Idx → Elt F .i32) (o : S128.Idx → Elt F .i32)

omit [FloatOps F] in
/-- What the copy of the slice leaves in the result. -/
theorem landed : View.write (Elt F) (oM).view o
    (View.read (Elt F) ((xM).slice (Rect.unit (s := S4096) ![0] S128.size inb_S4096_S128_0) (fun _ => rfl)).view f) Finset.univ = leading f := by
  refine (View.write_whole_univ _ _ _).trans (funext fun i => ?_)
  show f _ = f _
  congr 1
  funext a; fin_cases a; apply Fin.ext
  refine (Rect.emb_apply (Rect.unit (s := S4096) ![0] S128.size inb_S4096_S128_0) i 0).trans ?_
  show 0 + 1 * (i 0).val = (i 0).val
  omega

/-- The first sequencer copies. -/
theorem body_first (h : 0 < grid0.bound 0) (O : CellTallies nD τ sig (HIx 1)) (W : Waits sig (HIx 1)) (hO : ∀ g, O g none = 0) :
    iprop(levAts (K (F := F)).L (K (F := F)).lev ∗ emp ∗ Task d f o 0 ∗ scopedBufs (thr d ⟨0, h⟩) ∗ scopedSems0 (thr d ⟨0, h⟩) ∗ owes (thr d ⟨0, h⟩) O W)
      ⊢ wp frame (wpE (defs₀ (F := F)) 𝒱₀ (thr d ⟨0, h⟩) none) Set.univ (prog ⟨0, h⟩)
          fun _ => iprop(Task d f (leading f) 0 ∗ scopedBufs (thr d ⟨0, h⟩) ∗ scopedSems0 (thr d ⟨0, h⟩)
            ∗ ∃ W', ⌜∀ p ∈ W', p ∈ W ∨ p.2 = none⌝ ∗ owes (thr d ⟨0, h⟩) O W') := by
  have k0_h1 : Scalar.cmpi .ne (Scalar.extui (Scalar.cmpi .eq (BitVec.ofNat 32 (coords ⟨0, h⟩ 0).val) 0#32) : BitVec 32) 0#32 = 1#1 := by decide +revert
  rw [show Task d f o 0 = Arrays d f o from if_pos rfl, show Task d f (leading f) 0 = Arrays d f (leading f) from if_pos rfl]
  simp only [prog, cc0__scs_noop_body_eq_skeleton]; unfold cc0__scs_noop_body_skel Arrays
  iintro ⟨#Hlv, -, ⟨Hx, Ho⟩, Hsb, Hss, HO⟩
  ihave Hss := (SparseCore.Cfg.scopedSems0_S_elim (Val := Elt F) d _) $$ Hss
  icases Hss with ⟨Hown, Hsubs⟩
  ihave Hown := (Entails.of_eq (sems_split (F := F) d ⟨0, h⟩)) $$ Hown
  icases Hown with ⟨Hsem, Hrest⟩
  ihave Hmw := ((K (F := F)).mayWaits_none (thr := thr d ⟨0, h⟩) hO) $$ Hlv
  ihave Hx := (Entails.of_eq (x_seen (F := F) d ⟨0, h⟩ f).symm) $$ Hx
  ihave Ho := (Entails.of_eq (o_seen (F := F) d ⟨0, h⟩ o).symm) $$ Ho
  sl_exec
  sl_step
  isplitl [Hx Ho]
  · isplitl [Hx]
    · iapply (Entails.of_eq (x_seen (F := F) d ⟨0, h⟩ f)); iexact Hx
    iapply (Entails.of_eq ((congrArg (fun v => ((oM).view.loc (thr d ⟨0, h⟩) ↦{fullShare} v : sProp (MM F))) (landed f o)).trans (o_seen (F := F) d ⟨0, h⟩ (leading f))))
    iexact Ho
  isplitl [Hsb]; · iexact Hsb
  isplitl [Hsem Hrest Hsubs]
  · iapply (SparseCore.Cfg.scopedSems0_S_intro (Val := Elt F) d _)
    isplitl [Hsem Hrest]
    · iapply (Entails.of_eq (sems_split (F := F) d ⟨0, h⟩).symm); isplitl [Hsem]
      · iexact Hsem
      iexact Hrest
    · iexact Hsubs
  iexists (insert (SemLoc.dma cc0_scoped0.sem, (default : HIx 1)) W); isplitr
  · ipureintro; intro p hp
    rcases Finset.mem_insert.mp hp with hp | hp
    · exact .inr (hp ▸ rfl)
    · exact .inl hp
  · iexact HO

/-- The second does nothing. -/
theorem body_second (h : 1 < grid0.bound 0) (O : CellTallies nD τ sig (HIx 1)) (W : Waits sig (HIx 1)) :
    iprop(levAts (K (F := F)).L (K (F := F)).lev ∗ emp ∗ Task d f o 1 ∗ scopedBufs (thr d ⟨1, h⟩) ∗ scopedSems0 (thr d ⟨1, h⟩) ∗ owes (thr d ⟨1, h⟩) O W)
      ⊢ wp frame (wpE (defs₀ (F := F)) 𝒱₀ (thr d ⟨1, h⟩) none) Set.univ (prog ⟨1, h⟩)
          fun _ => iprop(Task d f (leading f) 1 ∗ scopedBufs (thr d ⟨1, h⟩) ∗ scopedSems0 (thr d ⟨1, h⟩)
            ∗ ∃ W', ⌜∀ p ∈ W', p ∈ W ∨ p.2 = none⌝ ∗ owes (thr d ⟨1, h⟩) O W') := by
  have k0_h1 : ¬ Scalar.cmpi .ne (Scalar.extui (Scalar.cmpi .eq (BitVec.ofNat 32 (coords ⟨1, h⟩ 0).val) 0#32) : BitVec 32) 0#32 = 1#1 := by decide +revert
  rw [show Task d f o 1 = iprop(emp) from if_neg Nat.one_ne_zero, show Task d f (leading f) 1 = iprop(emp) from if_neg Nat.one_ne_zero]
  simp only [prog, cc0__scs_noop_body_eq_skeleton]; unfold cc0__scs_noop_body_skel
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

end Body

end Cert.Proof.Scs

end
-- ==== Proof.ScsRun.lean ====
/-
  The scalar subcores' program: what the launch hands each sequencer, the host's operations around the call, and the
  run. It leaves every host buffer at the valuation `Vend`, and the result is the first index word as a float.
-/
module

public import proofs.«01_k».proof.Proof.Scs
public import Idealize.ShloMosaic.Lib.Pipeline.Frame
public import Idealize.ShloMosaic.Lib.Pipeline.RegionsLoop
public import Idealize.ShloMosaic.Lib.Pipeline.Value

@[expose] public section

noncomputable section

namespace Cert.Proof.Scs

open Cert.ScsKernelIdeal Cert.ScsKernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Pipeline (ucRefs)

variable {F : FTy → Type}

/-! ## The call's payloads and obligation -/

section Pay

variable (f : Dev nD → S4096.Idx → Elt F .i32) (o : Dev nD → S128.Idx → Elt F .i32)

/-- What the handshakes carry: to the sequencers their tasks, back the same with the words copied. -/
def P : (K (F := F)).Pay (nD := nD) (Val := Elt F) (Name := ℕ) (U := UU) where
  st := fun _ d c => Task d (f d) (o d) c.val
  dn := fun _ d c => Task d (f d) (leading (f d)) c.val
  go := fun _ _ _ _ => iprop(emp)
  td := fun _ _ _ _ => iprop(emp)
  x := fun _ _ => iprop(emp)

instance P_storable : (P f o).IsStorable where
  st _ d c := Task_storable d _ _ _
  dn _ d c := Task_storable d _ _ _
  go _ _ _ _ := by unfold P; infer_instance
  td _ _ _ _ := by unfold P; infer_instance

/-- The two tasks together are the two arrays. -/
theorem both (d : Dev nD) (g : S4096.Idx → Elt F .i32) (w : S128.Idx → Elt F .i32) :
    (bigSep (Finset.univ : Finset (Fin 2)) fun c => Task d g w c.val) = iprop(Arrays d g w ∗ emp) := by
  rw [show (Finset.univ : Finset (Fin 2)) = {0, 1} by decide, SparseCore.bigSep_insert' (by decide), bigSep_singleton]
  exact congrArg₂ (fun a b : sProp (MM F) => iprop(a ∗ b)) (if_pos rfl) (if_neg Nat.one_ne_zero)

section Obl

variable [FloatOps F]

theorem defs₀_scalar (c : Fin τ.nSC) :
    defs₀ (F := F) (.scScalar c) 0 () = SparseCore.onCore hcore0 (fun c => prog c) ⟨⟩ c := rfl

omit [FloatOps F] in
/-- The waits a body records are at the call's own index or none. -/
theorem waits_weaken {th : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem scalarObl : (K (F := F)).ScalarObl (D (F := F)) 𝒱 (P f o) v₀ 0 := by
  intro d c O W hO _ _
  simp only [show (P f o).ox = fun _ _ => 0 from rfl, add_zero]
  have hc : ((K (F := F)).core 0 c).val < grid0.bound 0 := c.isLt
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  rw [defs₀_scalar]; simp only [SparseCore.onCore, hc, ↓reduceDIte]
  show iprop(_ ∗ _ ∗ Task d (f d) (o d) c.val ∗ _) ⊢ wp _ _ _ _ (fun _ => iprop(Task d (f d) (leading (f d)) c.val ∗ _))
  match c with
  | ⟨0, h⟩ => exact (body_first d (f d) (o d) h O W hO).trans (wp_mono frame _ _ fun _ => waits_weaken)
  | ⟨1, h⟩ => exact (body_second d (f d) (o d) h O W).trans (wp_mono frame _ _ fun _ => waits_weaken)

end Obl

end Pay

/-! ## The host's operations and the valuations between them -/

variable [FloatOps F]

abbrev opFlat : HloOp τ sig (Elt F) := StableHlo.reshape main_arg2 main_v0 (rfl : (.i32 : EltTy) = .i32) shapeCasts_S32x128_S4096
abbrev opFirst : HloOp τ sig (Elt F) := StableHlo.unary main_v1 main_v2 ((extractStridedSlice S1 ![0] · slices_S128_S1_0) : (⟨S128, .i32⟩ : BufTy).Contents (Elt F) → (⟨S1, .i32⟩ : BufTy).Contents (Elt F))
abbrev opWord : HloOp τ sig (Elt F) := StableHlo.reshape main_v2 main_v3 (rfl : (.i32 : EltTy) = .i32) shapeCasts_S1_S_
abbrev opFloat : HloOp τ sig (Elt F) := StableHlo.unary main_v3 main_v4 (sitofp .f32 : (⟨S_, .i32⟩ : BufTy).Contents (Elt F) → (⟨S_, .f32⟩ : BufTy).Contents (Elt F))

/-- A valuation of each device's buffers. -/
abbrev Vals (F : FTy → Type) := Dev nD → Valuation τ sig (Elt F)

variable (m : (ℓ : Loc nD τ sig) → Buf (Elt F) ℓ) (ρ : Dev nD → PrngReg)

def V0 : Vals F := fun d b => m (d, b)
def V1 : Vals F := fun d => (opFlat (F := F)).result (V0 m d)
/-- The flat indices and the result's array as the call finds them. -/
abbrev flat (d : Dev nD) : S4096.Idx → Elt F .i32 := V1 m d main_v0
abbrev out₀ (d : Dev nD) : S128.Idx → Elt F .i32 := m ((SparseCore.T d : Thread nD τ).loc main_v1)

def V2 : Vals F := fun d => Function.update (V1 m d) (main_v1 : DevRef τ sig) (leading (flat m d))
def Vend : Vals F := fun d => (opFloat (F := F)).result ((opWord (F := F)).result ((opFirst (F := F)).result (V2 m d)))

theorem V1_out (d : Dev nD) : V1 m d main_v1 = out₀ m d :=
  StableHlo.reshape_result_ne (x := main_arg2) (y := main_v0) _ _ _ _ (V0 m d) (by decide)
theorem V2_out (d : Dev nD) : V2 m d main_v1 = leading (flat m d) := Function.update_self ..
theorem V2_ne (d : Dev nD) {b : Ref sig .tc} (h : b ≠ main_v1) : V2 m d b = V1 m d b :=
  Function.update_of_ne (fun e => h (Proc.devRef_injective _ e)) ..

/-- The host's buffers that the call doesn't touch. -/
abbrev others : Finset (DevRef τ sig) := ((ucRefs τ sig).erase main_v0).erase main_v1

omit [FloatOps F] in
theorem held_call (d : Dev nD) (V : Valuation τ sig (Elt F)) :
    (held (SparseCore.T d : Thread nD τ) (ucRefs τ sig) V : sProp (MM F))
      = iprop((xLoc d ↦{fullShare} V main_v0) ∗ (oLoc d ↦{fullShare} V main_v1) ∗ held (SparseCore.T d : Thread nD τ) others V) := by
  unfold held others
  rw [SparseCore.bigSep_erase' (show (main_v0 : DevRef τ sig) ∈ ucRefs τ sig by decide),
    SparseCore.bigSep_erase' (show (main_v1 : DevRef τ sig) ∈ (ucRefs τ sig).erase main_v0 by decide)]

/-- Off its result the call changes no buffer. -/
theorem others_V2 (d : Dev nD) : (held (SparseCore.T d : Thread nD τ) others (V1 m d) : sProp (MM F)) = held (SparseCore.T d : Thread nD τ) others (V2 m d) := by
  unfold held
  refine bigSep_congr fun b hb => ?_
  rw [show V2 m d b = V1 m d b from Function.update_of_ne (Finset.ne_of_mem_erase hb) ..]

/-! ## The launch's ghost state -/

def u₀ : UU := (initOf (K (F := F)).hsCells (K (F := F)).hsToks, 1)

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (flat m) (out₀ m)).x q thr) := by
  have hx : (bigSep Finset.univ fun thr : Thread nD τ => bigSep Finset.univ fun q : Fin 1 => (P (flat m) (out₀ m)).x q thr) = (iprop(emp) : sProp (MM F)) :=
    (bigSep_congr fun _ _ => bigSep_univ_of_subsingleton (0 : Fin 1)).trans (bigSep_emp_const _)
  rw [hx, show (bigSep Finset.univ fun _ : Dev nD => (iprop(emp) : sProp (MM F))) = iprop(emp) from bigSep_emp_const _]
  unfold u₀
  iintro Hu
  ihave H := (ownU_pair (initOf (K (F := F)).hsCells (K (F := F)).hsToks) _) $$ Hu
  icases H with ⟨HH, -⟩
  imodintro
  isplitl [HH]; · iexact HH
  isplitr <;> iempintro

/-! ## @main -/

theorem hFlat : (opFlat (F := F)).bufs ⊆ ucRefs τ sig := show ({((main_arg2 : Ref sig .tc) : DevRef τ sig), ((main_v0 : Ref sig .tc) : DevRef τ sig)} : Finset (DevRef τ sig)) ⊆ ucRefs τ sig by decide
theorem hFirst : (opFirst (F := F)).bufs ⊆ ucRefs τ sig := show ({((main_v1 : Ref sig .tc) : DevRef τ sig), ((main_v2 : Ref sig .tc) : DevRef τ sig)} : Finset (DevRef τ sig)) ⊆ ucRefs τ sig by decide
theorem hWord : (opWord (F := F)).bufs ⊆ ucRefs τ sig := show ({((main_v2 : Ref sig .tc) : DevRef τ sig), ((main_v3 : Ref sig .tc) : DevRef τ sig)} : Finset (DevRef τ sig)) ⊆ ucRefs τ sig by decide
theorem hFloat : (opFloat (F := F)).bufs ⊆ ucRefs τ sig := show ({((main_v3 : Ref sig .tc) : DevRef τ sig), ((main_v4 : Ref sig .tc) : DevRef τ sig)} : Finset (DevRef τ sig)) ⊆ ucRefs τ sig by decide

abbrev FIN (d : Dev nD) : sProp (MM F) := held (SparseCore.T d : Thread nD τ) (ucRefs τ sig) (Vend m d)

theorem hmain (κ : GSem nD τ sig → ℕ) (d : Dev nD) :
    iprop((K (F := F)).ctx EH (P (flat m) (out₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  rw [show (unscopedBufs d (fun b => m ((SparseCore.T d : Thread nD τ).loc b)) : sProp (MM F)) = held (SparseCore.T d : Thread nD τ) (ucRefs τ sig) (V0 m d)
    from Pipeline.unscopedBufs_held d (V0 m d)]
  iintro ⟨#Hctx, Hst, ⟨Hb, Hu, Hts, -⟩, -⟩
  iapply (wp_hlo_within 𝒱 (SparseCore.T d) none Set.univ (op := opFlat) hFlat (V := V0 m d)) $$ [Hb Hu]
  · isplitl [Hb] <;> iassumption
  iintro ⟨Hb, Hu⟩
  rw [wp_ret]; imodintro
  ihave Hu := (show (held (SparseCore.T d : Thread nD τ) (ucRefs τ sig) ((opFlat (F := F)).result (V0 m d)) : sProp (MM F)) ⊢ _ from Entails.of_eq (held_call d (V1 m d))) $$ Hu
  icases Hu with ⟨Hx, Ho, Hr⟩
  iapply ((K (F := F)).wp_run (D (F := F)) 𝒱 (EH := EH) (P := P (flat m) (out₀ m)) κ d 0) $$ [Hst Hx Ho Hb Hts Hr]
  isplitr; · iexact Hctx
  isplitl [Hst]; · iexact Hst
  isplitl [Hx Ho]
  · iapply (Entails.of_eq (both d (flat m d) (out₀ m d)).symm)
    unfold Arrays
    isplitl [Hx Ho]
    · isplitl [Hx]; · iexact Hx
      iapply (Entails.of_eq (congrArg (fun v => (oLoc d ↦{fullShare} v : sProp (MM F))) (V1_out m d))); iexact Ho
    iempintro
  iintro ⟨Hst, Hdn⟩
  ihave Hdn := (show (bigSep Finset.univ fun c : Fin ((K (F := F)).nCore 0) => (P (flat m) (out₀ m)).dn 0 d c) ⊢ (iprop(Arrays d (flat m d) (leading (flat m d)) ∗ emp) : sProp (MM F))
    from Entails.of_eq (both d (flat m d) (leading (flat m d)))) $$ Hdn
  unfold Arrays
  icases Hdn with ⟨⟨Hx, Ho⟩, -⟩
  ihave Hu := (Entails.of_eq (held_call d (V2 m d)).symm) $$ [Hx Ho Hr]
  · isplitl [Hx]
    · iapply (Entails.of_eq (congrArg (fun v => (xLoc d ↦{fullShare} v : sProp (MM F))) (V2_ne m d (b := main_v0) (by decide)).symm)); iexact Hx
    isplitl [Ho]
    · iapply (Entails.of_eq (congrArg (fun v => (oLoc d ↦{fullShare} v : sProp (MM F))) (V2_out m d).symm)); iexact Ho
    iapply (Entails.of_eq (others_V2 m d)); iexact Hr
  iapply (wp_hlo_within 𝒱 (SparseCore.T d) none Set.univ (op := opFirst) hFirst (V := V2 m d)) $$ [Hb Hu]
  · isplitl [Hb] <;> iassumption
  iintro ⟨Hb, Hu⟩
  rw [wp_ret]; imodintro
  iapply (wp_hlo_within 𝒱 (SparseCore.T d) none Set.univ (op := opWord) hWord) $$ [Hb Hu]
  · isplitl [Hb] <;> iassumption
  iintro ⟨Hb, Hu⟩
  rw [wp_ret]; imodintro
  iapply (wp_hlo_within 𝒱 (SparseCore.T d) none Set.univ (op := opFloat) hFloat) $$ [Hb Hu]
  · isplitl [Hb] <;> iassumption
  iintro ⟨Hb, Hu⟩
  rw [wp_ret]; imodintro
  imodintro
  isplitl [Hst]; · iexact Hst
  isplitl [Hu]; · iexact Hu
  isplitl [Hb] <;> iassumption

/-! ## The program's run -/

def fq (d : Dev nD) (s' : Phys nD τ sig (Elt F)) : Prop := ∀ b ∈ ucRefs τ sig, s'.mem.mem (d, b) = Vend m d b

theorem hfin (d : Dev nD) (s' : Phys nD τ sig (Elt F)) : iprop(FIN m d ∗ SI s') ⊢ (⌜fq m d s'⌝ : sProp (MM F)) := by
  have one : ∀ b : {b // b ∈ ucRefs τ sig}, iprop(FIN m d ∗ SI s') ⊢ (⌜s'.mem.mem (d, b.1) = Vend m d b.1⌝ : sProp (MM F)) := fun b => by
    iintro ⟨Hu, HSI⟩
    ihave Hb := (show (held (SparseCore.T d : Thread nD τ) (ucRefs τ sig) (Vend m d) : sProp (MM F)) ⊢ ((d, b.1) ↦{fullShare} Vend m d b.1) from bigSep_elim (Φ := fun b : DevRef τ sig => (((SparseCore.T d : Thread nD τ).1, b) ↦{fullShare} Vend m d b : sProp (MM F))) b.2) $$ Hu
    ihave H := (SI_pointsTo_agree (st := s') (ℓ := (d, b.1)) (I := Finset.univ) (q := fullShare) (f := Vend m d b.1)) $$ [HSI Hb]
    · isplitl [HSI] <;> iassumption
    icases H with %h
    ipureintro; exact funext fun i => h i (Finset.mem_univ i)
  exact ((forall_intro one).trans pure_forall.2).trans (Laws.pure_mono fun h b hb => h ⟨b, hb⟩)

def QC : PUnit × MemSt nD τ sig (Elt F) → Prop := fun r => (∀ d : Dev nD, ∀ b ∈ ucRefs τ sig, r.2.mem (d, b) = Vend m d b) ∧ r.2.sem = fun _ => 0

theorem run_main [∀ e, Nonempty (Elt F e)] :
    θ_run (Cert.ScsKernelIdeal.defs (F := F)) (Cert.ScsKernelIdeal.threads (F := F)) ⟨m, fun _ => 0, ρ⟩ (QC m) :=
  SparseCore.Cfg.θ_run_sc_quiescent (K := K (F := F)) (D := D (F := F)) (𝒱 := 𝒱) (EH := EH) (P := P (flat m) (out₀ m)) (A := ∅) facts v₀
    (fun q _ => match q with | 0 => scalarObl (flat m) (out₀ m))
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

/-! ## The arguments end as they began, the result at the first index word -/

theorem Vend_keep (d : Dev nD) {b : Ref sig .tc} (h0 : b ≠ main_v0) (h1 : b ≠ main_v1) (h2 : b ≠ main_v2) (h3 : b ≠ main_v3) (h4 : b ≠ main_v4) :
    Vend m d b = m (d, (b : DevRef τ sig)) := by
  unfold Vend
  rw [StableHlo.unary_result_ne (x := main_v3) (y := main_v4) _ _ _ _ h4, StableHlo.reshape_result_ne (x := main_v2) (y := main_v3) _ _ _ _ _ h3,
    StableHlo.unary_result_ne (x := main_v1) (y := main_v2) _ _ _ _ h2, V2_ne m d h1]
  unfold V1
  rw [StableHlo.reshape_result_ne (x := main_arg2) (y := main_v0) _ _ _ _ _ h0]
  rfl

theorem QC_args {r : PUnit × MemSt nD τ sig (Elt F)} (h : QC m r) (d : Dev nD) :
    r.2.mem (d, (main_arg0 : DevRef τ sig)) = m (d, (main_arg0 : DevRef τ sig)) ∧ r.2.mem (d, (main_arg1 : DevRef τ sig)) = m (d, (main_arg1 : DevRef τ sig))
      ∧ r.2.mem (d, (main_arg2 : DevRef τ sig)) = m (d, (main_arg2 : DevRef τ sig)) ∧ r.2.mem (d, (main_arg3 : DevRef τ sig)) = m (d, (main_arg3 : DevRef τ sig))
      ∧ r.2.mem (d, (main_arg4 : DevRef τ sig)) = m (d, (main_arg4 : DevRef τ sig)) :=
  ⟨(h.1 d _ (by decide)).trans (Vend_keep m d (b := main_arg0) (by decide) (by decide) (by decide) (by decide) (by decide)),
   (h.1 d _ (by decide)).trans (Vend_keep m d (b := main_arg1) (by decide) (by decide) (by decide) (by decide) (by decide)),
   (h.1 d _ (by decide)).trans (Vend_keep m d (b := main_arg2) (by decide) (by decide) (by decide) (by decide) (by decide)),
   (h.1 d _ (by decide)).trans (Vend_keep m d (b := main_arg3) (by decide) (by decide) (by decide) (by decide) (by decide)),
   (h.1 d _ (by decide)).trans (Vend_keep m d (b := main_arg4) (by decide) (by decide) (by decide) (by decide) (by decide))⟩

/-- The index argument. -/
abbrev ind (d : Dev nD) : S32x128.Idx → Elt F .i32 := m ((SparseCore.T d : Thread nD τ).loc main_arg2)

/-- The flat indices are the argument's, row after row. -/
theorem flat_eq (d : Dev nD) : flat m d = shapeCast S4096 (ind m d) shapeCasts_S32x128_S4096 :=
  StableHlo.reshape_result' (x := main_arg2) (y := main_v0) _ _ _ _ _

omit [FloatOps F] in
/-- The first of the words copied is the argument's first. -/
theorem first_word (x : S32x128.Idx → Elt F .i32) (i : S_.Idx) :
    shapeCast S_ (extractStridedSlice S1 ![0] (leading (shapeCast S4096 x shapeCasts_S32x128_S4096)) slices_S128_S1_0) shapeCasts_S1_S_ i
      = x (fun | 0 => (0 : Fin 32) | 1 => (0 : Fin 128)) := by
  have hi : (S_.rowMajor i).val = 0 := Nat.lt_one_iff.1 (S_.rowMajor i).isLt
  refine (shapeCast_apply _ _ i (fun | 0 => (0 : Fin 1) : S1.Idx) ?_).trans ((extractStridedSlice_apply _ _ _ _ (fun | 0 => (0 : Fin 128) : S128.Idx) ?_).trans ?_)
  · rw [hi, Shape.rowMajor_val_one]; rfl
  · intro a; fin_cases a; rfl
  · refine shapeCast_apply _ _ _ _ ?_
    rw [Shape.rowMajor_val_two, Shape.rowMajor_val_one]; rfl

theorem Vend_val (d : Dev nD) : Vend m d main_v4 = sitofp .f32 (fun _ : S_.Idx => ind m d (fun | 0 => (0 : Fin 32) | 1 => (0 : Fin 128))) := by
  unfold Vend
  rw [StableHlo.unary_result' (x := main_v3) (y := main_v4), StableHlo.reshape_result' (x := main_v2) (y := main_v3),
    StableHlo.unary_result' (x := main_v1) (y := main_v2), V2_out, flat_eq]
  exact congrArg (sitofp .f32) (funext fun i => first_word (ind m d) i)

end Cert.Proof.Scs

end
-- ==== Proof.ScsSame.lean ====
/- The scalar subcores' program as written and its ideal reading are one text, so one run serves both; and the plain
   reading of the first index word is that word. -/
module

public import proofs.«01_k».proof.Defs
public import proofs.«01_k».proof.Proof.Gen.ScsKernel
public import proofs.«01_k».proof.Proof.Gen.ScsKernelIdeal
public import proofs.«01_k».proof.Proof.Gen.FirstIndexIdeal
public import Idealize.ShloMosaic.Lib.Pipeline.Value

@[expose] public section

noncomputable section

namespace Cert.Proof.Scs

open Idealize.ShloMosaic Idealize.SL.Sem

local instance : Cert.ScsKernel.Facts := Cert.ScsKernel.Gen.facts
local instance : Cert.ScsKernelIdeal.Facts := Cert.ScsKernelIdeal.Gen.facts

section Text

variable {F : FTy → Type} [FloatOps F]

/-- The two programs' tables of kernel bodies are one table. -/
theorem bodies_eq : Cert.ScsKernel.defs₀ (F := F) = Cert.ScsKernelIdeal.defs₀ (F := F) := by
  funext p
  cases p with
  | tc => funext ℓ; exact (match ℓ with | 0 => rfl)
  | scScalar c => funext ℓ; exact (match ℓ with | 0 => rfl)
  | scVector c s => funext ℓ; exact (match ℓ with | 0 => rfl)

/-- With the launch's entries added, too. -/
theorem defs_eq : Cert.ScsKernel.defs (F := F) = Cert.ScsKernelIdeal.defs (F := F) :=
  congrArg (fun x => Cert.ScsKernelIdeal.sc.defs (Pipeline.defs Cert.ScsKernelIdeal.pcfgs x)) bodies_eq

theorem main_eq : Cert.ScsKernel.main (F := F) = Cert.ScsKernelIdeal.main (F := F) := rfl
theorem sc_eq : Cert.ScsKernel.sc (F := F) = Cert.ScsKernelIdeal.sc (F := F) := rfl

/-- So the two programs run the same threads. -/
theorem threads_eq : (Cert.ScsKernel.sc (F := F)).threads (Cert.ScsKernel.main (F := F)) = (Cert.ScsKernelIdeal.sc (F := F)).threads (Cert.ScsKernelIdeal.main (F := F)) :=
  (congrArg (fun x => (Cert.ScsKernel.sc (F := F)).threads x) main_eq).trans
    (congrArg (fun x => SparseCore.Cfg.threads x (Cert.ScsKernelIdeal.main (F := F))) sc_eq)

end Text

/-- The first row's first word, sliced out and made a scalar. -/
theorem corner {α : Type} (x : Cert.FirstIndexIdeal.S32x128.Idx → α) (hs : Cert.FirstIndexIdeal.S32x128.Slices ![0, 0] Cert.FirstIndexIdeal.S1x1)
    (hc : Cert.FirstIndexIdeal.S1x1.ShapeCasts Cert.FirstIndexIdeal.S_) (i : Cert.FirstIndexIdeal.S_.Idx) :
    shapeCast Cert.FirstIndexIdeal.S_ (extractStridedSlice Cert.FirstIndexIdeal.S1x1 ![0, 0] x hs) hc i = x (fun | 0 => (0 : Fin 32) | 1 => (0 : Fin 128)) := by
  have hi : (Cert.FirstIndexIdeal.S_.rowMajor i).val = 0 := Nat.lt_one_iff.1 (Cert.FirstIndexIdeal.S_.rowMajor i).isLt
  refine (shapeCast_apply _ _ i (fun | 0 => (0 : Fin 1) | 1 => (0 : Fin 1) : Cert.FirstIndexIdeal.S1x1.Idx) ?_).trans (extractStridedSlice_apply _ _ _ _ _ ?_)
  · rw [hi, Shape.rowMajor_val_two]; rfl
  · intro a; fin_cases a <;> rfl

end Cert.Proof.Scs

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_drawn
public import proofs.«01_k».proof.Proof.Gen.ScsKernel
public import proofs.«01_k».proof.Proof.Gen.ScsKernelIdeal
public import proofs.«01_k».proof.Proof.Gen.FirstIndexIdeal
public import proofs.«01_k».proof.Proof.Gen.FirstIndexIdeal.Run
public import proofs.«01_k».proof.Proof.Run
public import proofs.«01_k».proof.Proof.Pre
public import proofs.«01_k».proof.Proof.Same
public import proofs.«01_k».proof.Proof.Value
public import proofs.«01_k».proof.Proof.Reference
public import proofs.«01_k».proof.Proof.ScsRun
public import proofs.«01_k».proof.Proof.ScsSame
public import Idealize.ShloMosaic.Adequacy
public import Idealize.ShloMosaic.Init

@[expose] public section

noncomputable section

namespace Cert.Proof

open Idealize.ShloMosaic Idealize.ShloMosaic.TcCoe Idealize.SL.Sem

/-- The kernel as written: terminates with its arguments as they began and every counter at zero. -/
theorem frame_kernel : Cert.quiescent_Kernel := fun m ρ hp =>
  Focal.run_of_eq Focal.defs_eq Focal.threads_eq ((θ_run Cert.KernelIdeal.defs _ _).mono (fun _ h => ⟨fun c => Focal.QC_args m h c, h.2⟩)
    (Focal.run_main (F := Bits) m ρ fun d i => Focal.drawn_index (hp d) i))

/-- The same of its ideal reading. -/
theorem frame_kernelIdeal : Cert.quiescent_KernelIdeal := fun m ρ hp =>
  (θ_run Cert.KernelIdeal.defs _ _).mono (fun _ h => ⟨fun c => Focal.QC_args m h c, h.2⟩)
    (Focal.run_main (F := Ideal) m ρ fun d i => Focal.drawn_index (hp d) i)

/-- The reference: the same, with no precondition. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Equal arguments in the precondition's ranges: the kernel and the reference leave the same loss. -/
theorem same_loss : Cert.algebraic_KernelIdeal_ReferenceIdeal := fun m g m' g' hp ha => by
  have hI : ∀ d i, BitVec.toNat (Focal.ind m d i) < 16384 := fun d i => Focal.drawn_index (hp d) i
  refine ⟨fun c => Focal.Vend m c Cert.KernelIdeal.main_v6, (θ_run Cert.KernelIdeal.defs _ _).mono
      (fun _ h c => ⟨h.1 c (Cert.KernelIdeal.main_v6 : DevRef Cert.KernelIdeal.τ Cert.KernelIdeal.sig) (by decide), Focal.QC_args m h c⟩) (Focal.run_main (F := Ideal) m g hI),
    (θ_run Cert.ReferenceIdeal.defs _ _).mono (fun r h c => ⟨(h c).1.trans ?_, (h c).2⟩) (Cert.ReferenceIdeal.Value.run (F := Ideal) m' g')⟩
  obtain ⟨e0, e1, e2, e3, e4⟩ := ha c
  have e0' : Focal.refX (StableHlo.launchContents m' c) = m (c, (Cert.KernelIdeal.main_arg0 : DevRef Cert.KernelIdeal.τ Cert.KernelIdeal.sig)) := e0
  have e1' : Focal.refM (StableHlo.launchContents m' c) = m (c, (Cert.KernelIdeal.main_arg1 : DevRef Cert.KernelIdeal.τ Cert.KernelIdeal.sig)) := e1
  have e2' : Focal.refI (StableHlo.launchContents m' c) = m (c, (Cert.KernelIdeal.main_arg2 : DevRef Cert.KernelIdeal.τ Cert.KernelIdeal.sig)) := e2
  have e3' : Focal.refT (StableHlo.launchContents m' c) = m (c, (Cert.KernelIdeal.main_arg3 : DevRef Cert.KernelIdeal.τ Cert.KernelIdeal.sig)) := e3
  have e4' : Focal.refA (StableHlo.launchContents m' c) = m (c, (Cert.KernelIdeal.main_arg4 : DevRef Cert.KernelIdeal.τ Cert.KernelIdeal.sig)) := e4
  funext i
  refine (Focal.res_val (StableHlo.launchContents m' c) (fun i => ?_) (fun i => ?_) i).trans ?_
  · rw [e2']; exact hI c i
  · rw [e3']; rcases Focal.drawn_bin (hp c) i with e | e <;> exact lt_of_eq_of_lt (congrArg BitVec.toNat e) (by decide)
  · rw [e0', e1', e2', e3', e4']
    refine Eq.trans ?_ (Focal.Vend_val m c (hI c) i).symm
    exact (Focal.lossKern_eq _ _ _ _ fun k a b => Focal.drawn_finite (hp c) _).symm

/-- The scalar subcores' program as written: terminates with its arguments as they began and every counter at zero. -/
theorem frame_scs : Cert.quiescent_ScsKernel := fun m ρ _ =>
  Focal.run_of_eq Scs.defs_eq Scs.threads_eq ((θ_run Cert.ScsKernelIdeal.defs _ _).mono (fun _ h => ⟨fun c => Scs.QC_args m h c, h.2⟩)
    (Scs.run_main (F := Bits) m ρ))

/-- The same of its ideal reading. -/
theorem frame_scsIdeal : Cert.quiescent_ScsKernelIdeal := fun m ρ _ =>
  (θ_run Cert.ScsKernelIdeal.defs _ _).mono (fun _ h => ⟨fun c => Scs.QC_args m h c, h.2⟩) (Scs.run_main (F := Ideal) m ρ)

/-- And of the plain reading of the first index word. -/
theorem frame_firstIndex : Cert.quiescent_FirstIndexIdeal := fun m ρ _ =>
  (θ_run Cert.FirstIndexIdeal.defs _ _).mono (fun r h => ⟨fun c => (h c).2, sem_eq_zero_of_no_sems rfl r.2⟩)
    (Cert.FirstIndexIdeal.Value.run (F := Ideal) m ρ)

/-- Equal arguments: the scalar subcores' program returns the first index word as a float. -/
theorem same_word : Cert.algebraic_ScsKernelIdeal_FirstIndexIdeal := fun m g m' g' _ ha => by
  refine ⟨fun c => Scs.Vend m c Cert.ScsKernelIdeal.main_v4, (θ_run Cert.ScsKernelIdeal.defs _ _).mono
      (fun _ h c => ⟨h.1 c (Cert.ScsKernelIdeal.main_v4 : DevRef Cert.ScsKernelIdeal.τ Cert.ScsKernelIdeal.sig) (by decide), Scs.QC_args m h c⟩) (Scs.run_main (F := Ideal) m g),
    (θ_run Cert.FirstIndexIdeal.defs _ _).mono (fun r h c => ⟨(h c).1.trans ?_, (h c).2⟩) (Cert.FirstIndexIdeal.Value.run (F := Ideal) m' g')⟩
  obtain ⟨-, -, e2, -, -⟩ := ha c
  rw [e2]
  refine Eq.trans ?_ (Scs.Vend_val m c).symm
  exact congrArg (sitofp .f32) (funext fun i => Scs.corner (Scs.ind m c) _ _ i)

theorem claim : Cert.Claim := ⟨Cert.Kernel.Gen.facts, Cert.KernelIdeal.Gen.facts, Cert.ReferenceIdeal.Gen.facts, Cert.ScsKernel.Gen.facts,
  Cert.ScsKernelIdeal.Gen.facts, Cert.FirstIndexIdeal.Gen.facts, Cert.Pre_drawn.Gen.facts,
  frame_kernel, frame_kernelIdeal, frame_reference, fun m ρ _ => frame_reference m ρ trivial, frame_scs, frame_scsIdeal, frame_firstIndex,
  trivial, same_loss, trivial, same_word⟩

end Cert.Proof

end
